-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S128x2x384 Cert.KernelIdeal.S128x1x384
  ∧ IdealRules.bf16_pair.Statement Cert.KernelIdeal.S128x2x384 Cert.KernelIdeal.S128x1x384
  ∧ IdealRules.bf16_pair.SelectZeroStatement Cert.KernelIdeal.S128x384
  ∧ IdealRules.bf16_pair.Statement Cert.KernelIdeal.S256x320 Cert.KernelIdeal.S128x320
  ∧ IdealRules.bf16_pair.Statement Cert.KernelIdeal.S128x2x320 Cert.KernelIdeal.S128x1x320
  ∧ IdealRules.bf16_pair.Statement Cert.KernelIdeal.S128x2x128 Cert.KernelIdeal.S128x1x128
  ∧ IdealRules.bf16_pair.Statement Cert.KernelIdeal.S256x128 Cert.KernelIdeal.S128x128
  ∧ IdealRules.bf16_pack.Statement Cert.KernelIdeal.S128x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x6144x5120 : Shape := ⟨3, ![2, 6144, 5120]⟩
abbrev S896x5120 : Shape := ⟨2, ![896, 5120]⟩
abbrev S1792x320 : Shape := ⟨2, ![1792, 320]⟩
abbrev S_ : Shape := ⟨0, ![]⟩

class Facts : Prop where
  bcast_S_S2x6144x5120 : S_.BroadcastsInDim S2x6144x5120 (![] : Fin 0 → Fin S2x6144x5120.rank)

variable [Facts]

def fn {F : FTy → Type} [FloatOps F] (main_arg0 : FVec F S2x6144x5120 .bf16) (main_arg1 : IVec S896x5120 8) (main_arg2 : FVec F S1792x320 .fp8e4m3) (main_arg3 : FVec F S_ .f32) : IVec S2x6144x5120 1 :=
  let main_v0 : FVec F S2x6144x5120 .bf16 := Host.absf main_arg0
  let main_cst : FVec F S_ .bf16 := constant S_ .bf16 0x7F7F#16
  let main_v1 : FVec F S2x6144x5120 .bf16 := broadcastInDim S2x6144x5120 ![] bcast_S_S2x6144x5120 main_cst
  let main_v2 : IVec S2x6144x5120 1 := cmpf .ole main_v0 main_v1
  main_v2
-- ==== Kernel.lean ====
abbrev S2x6144x5120 : Shape := ⟨3, ![2, 6144, 5120]⟩
abbrev S896x5120 : Shape := ⟨2, ![896, 5120]⟩
abbrev S1792x320 : Shape := ⟨2, ![1792, 320]⟩
abbrev S_ : Shape := ⟨0, ![]⟩
abbrev S1 : Shape := ⟨1, ![1]⟩
abbrev S12288x5120 : Shape := ⟨2, ![12288, 5120]⟩
abbrev S12288x1792 : Shape := ⟨2, ![12288, 1792]⟩
abbrev S12288x1 : Shape := ⟨2, ![12288, 1]⟩
abbrev S512x5120 : Shape := ⟨2, ![512, 5120]⟩
abbrev S512x1792 : Shape := ⟨2, ![512, 1792]⟩
abbrev S512x1 : Shape := ⟨2, ![512, 1]⟩
abbrev S128x384 : Shape := ⟨2, ![128, 384]⟩
abbrev S1792x5120 : Shape := ⟨2, ![1792, 5120]⟩
abbrev S2x512x5120 : Shape := ⟨3, ![2, 512, 5120]⟩
abbrev S2x512x1 : Shape := ⟨3, ![2, 512, 1]⟩
abbrev S128x128 : Shape := ⟨2, ![128, 128]⟩
abbrev S256x320 : Shape := ⟨2, ![256, 320]⟩
abbrev S128x320 : Shape := ⟨2, ![128, 320]⟩
abbrev S128x128x1 : Shape := ⟨3, ![128, 128, 1]⟩
abbrev S256x128 : Shape := ⟨2, ![256, 128]⟩
abbrev S512 : Shape := ⟨1, ![512]⟩
abbrev S1x512x1 : Shape := ⟨3, ![1, 512, 1]⟩
abbrev S1x512x5120 : Shape := ⟨3, ![1, 512, 5120]⟩

abbrev nBuf : Space → Nat
  | .hbm => 9
  | .vmem => 14
  | .smem => 1
  | _ => 0

abbrev bufTy : (tb : Table) → Fin (tcTables nBuf tb) → BufTy
  | .hbm, ⟨0, _⟩ => ⟨S2x6144x5120, .bf16⟩
  | .hbm, ⟨1, _⟩ => ⟨S896x5120, .i8⟩
  | .hbm, ⟨2, _⟩ => ⟨S1792x320, .fp8e4m3⟩
  | .hbm, ⟨3, _⟩ => ⟨S_, .f32⟩
  | .hbm, ⟨4, _⟩ => ⟨S1, .f32⟩
  | .hbm, ⟨5, _⟩ => ⟨S12288x5120, .bf16⟩
  | .hbm, ⟨6, _⟩ => ⟨S12288x1792, .bf16⟩
  | .hbm, ⟨7, _⟩ => ⟨S12288x5120, .fp8e4m3⟩
  | .hbm, ⟨8, _⟩ => ⟨S12288x1, .f32⟩
  | .local _ .vmem, ⟨0, _⟩ => ⟨S512x5120, .bf16⟩
  | .local _ .vmem, ⟨1, _⟩ => ⟨S512x5120, .bf16⟩
  | .local _ .vmem, ⟨2, _⟩ => ⟨S896x5120, .i8⟩
  | .local _ .vmem, ⟨3, _⟩ => ⟨S1792x320, .fp8e4m3⟩
  | .local _ .vmem, ⟨4, _⟩ => ⟨S512x1792, .bf16⟩
  | .local _ .vmem, ⟨5, _⟩ => ⟨S512x1792, .bf16⟩
  | .local _ .vmem, ⟨6, _⟩ => ⟨S512x5120, .fp8e4m3⟩
  | .local _ .vmem, ⟨7, _⟩ => ⟨S512x5120, .fp8e4m3⟩
  | .local _ .vmem, ⟨8, _⟩ => ⟨S512x1, .f32⟩
  | .local _ .vmem, ⟨9, _⟩ => ⟨S512x1, .f32⟩
  | .local _ .vmem, ⟨10, _⟩ => ⟨S128x384, .i32⟩
  | .local _ .vmem, ⟨11, _⟩ => ⟨S1792x5120, .bf16⟩
  | .local _ .vmem, ⟨12, _⟩ => ⟨S2x512x5120, .bf16⟩
  | .local _ .vmem, ⟨13, _⟩ => ⟨S2x512x1, .f32⟩
  | .local _ .smem, ⟨0, _⟩ => ⟨S1, .f32⟩
  | _, _ => ⟨S2x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_10 : BitVec 32 := 0#32
  let c7_i32 : BitVec 32 := 7#32
  let v36 : BitVec 32 := Scalar.addi c0_i32_10 c7_i32
  let c1_i32_11 : BitVec 32 := 1#32
  ⟨c0_i32_10, v36, c1_i32_11⟩
def k0_mult1 (k0_t1 : Fin k0_t1_loop.trips) : BitVec 32 :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  v155
def k0_mult2 (k0_t1 : Fin k0_t1_loop.trips) : BitVec 32 :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  v157
def k0_off1 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v159 : Index := Scalar.indexCast v156
  let c0_51 : Index := 0#32
  ![v159.toNat, 0]
def k0_off2 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v199 : Index := Scalar.indexCast v158
  let c0_64 : Index := 0#32
  ![v199.toNat, 0]
def k0_off3 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v243 : Index := Scalar.indexCast v156
  let c0_78 : Index := 0#32
  ![v243.toNat, 0]
def k0_off4 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v280 : Index := Scalar.indexCast v158
  let c128 : Index := 128#32
  ![v280.toNat, 128]
def k0_off5 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v324 : Index := Scalar.indexCast v156
  let c128_107 : Index := 128#32
  ![v324.toNat, 128]
def k0_off6 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v361 : Index := Scalar.indexCast v158
  let c256 : Index := 256#32
  ![v361.toNat, 256]
def k0_off7 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v405 : Index := Scalar.indexCast v156
  let c256_136 : Index := 256#32
  ![v405.toNat, 256]
def k0_off8 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v442 : Index := Scalar.indexCast v158
  let c384 : Index := 384#32
  ![v442.toNat, 384]
def k0_off9 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v486 : Index := Scalar.indexCast v156
  let c384_164 : Index := 384#32
  ![v486.toNat, 384]
def k0_off10 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v523 : Index := Scalar.indexCast v158
  let c512 : Index := 512#32
  ![v523.toNat, 512]
def k0_off11 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v567 : Index := Scalar.indexCast v156
  let c512_193 : Index := 512#32
  ![v567.toNat, 512]
def k0_off12 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v604 : Index := Scalar.indexCast v158
  let c640 : Index := 640#32
  ![v604.toNat, 640]
def k0_off13 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v648 : Index := Scalar.indexCast v156
  let c640_221 : Index := 640#32
  ![v648.toNat, 640]
def k0_off14 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v685 : Index := Scalar.indexCast v158
  let c768 : Index := 768#32
  ![v685.toNat, 768]
def k0_off15 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v729 : Index := Scalar.indexCast v156
  let c768_249 : Index := 768#32
  ![v729.toNat, 768]
def k0_off16 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v766 : Index := Scalar.indexCast v158
  let c896 : Index := 896#32
  ![v766.toNat, 896]
def k0_off17 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v810 : Index := Scalar.indexCast v156
  let c896_277 : Index := 896#32
  ![v810.toNat, 896]
def k0_off18 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v847 : Index := Scalar.indexCast v158
  let c1024 : Index := 1024#32
  ![v847.toNat, 1024]
def k0_off19 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v891 : Index := Scalar.indexCast v156
  let c1024_306 : Index := 1024#32
  ![v891.toNat, 1024]
def k0_off20 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v928 : Index := Scalar.indexCast v158
  let c1152 : Index := 1152#32
  ![v928.toNat, 1152]
def k0_off21 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v972 : Index := Scalar.indexCast v156
  let c1152_334 : Index := 1152#32
  ![v972.toNat, 1152]
def k0_off22 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1009 : Index := Scalar.indexCast v158
  let c1280 : Index := 1280#32
  ![v1009.toNat, 1280]
def k0_off23 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1053 : Index := Scalar.indexCast v156
  let c1280_362 : Index := 1280#32
  ![v1053.toNat, 1280]
def k0_off24 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1090 : Index := Scalar.indexCast v158
  let c1408 : Index := 1408#32
  ![v1090.toNat, 1408]
def k0_off25 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1134 : Index := Scalar.indexCast v156
  let c1408_390 : Index := 1408#32
  ![v1134.toNat, 1408]
def k0_off26 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1171 : Index := Scalar.indexCast v158
  let c1536 : Index := 1536#32
  ![v1171.toNat, 1536]
def k0_off27 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1215 : Index := Scalar.indexCast v156
  let c1536_418 : Index := 1536#32
  ![v1215.toNat, 1536]
def k0_off28 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1252 : Index := Scalar.indexCast v158
  let c1664 : Index := 1664#32
  ![v1252.toNat, 1664]
def k0_off29 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1296 : Index := Scalar.indexCast v156
  let c1664_446 : Index := 1664#32
  ![v1296.toNat, 1664]
def k0_off30 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1333 : Index := Scalar.indexCast v158
  let c1792 : Index := 1792#32
  ![v1333.toNat, 1792]
def k0_off31 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1377 : Index := Scalar.indexCast v156
  let c1792_474 : Index := 1792#32
  ![v1377.toNat, 1792]
def k0_off32 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1414 : Index := Scalar.indexCast v158
  let c1920 : Index := 1920#32
  ![v1414.toNat, 1920]
def k0_off33 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1458 : Index := Scalar.indexCast v156
  let c1920_502 : Index := 1920#32
  ![v1458.toNat, 1920]
def k0_off34 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1495 : Index := Scalar.indexCast v158
  let c2048 : Index := 2048#32
  ![v1495.toNat, 2048]
def k0_off35 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1539 : Index := Scalar.indexCast v156
  let c2048_531 : Index := 2048#32
  ![v1539.toNat, 2048]
def k0_off36 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1576 : Index := Scalar.indexCast v158
  let c2176 : Index := 2176#32
  ![v1576.toNat, 2176]
def k0_off37 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1620 : Index := Scalar.indexCast v156
  let c2176_560 : Index := 2176#32
  ![v1620.toNat, 2176]
def k0_off38 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1657 : Index := Scalar.indexCast v158
  let c2304 : Index := 2304#32
  ![v1657.toNat, 2304]
def k0_off39 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1701 : Index := Scalar.indexCast v156
  let c2304_589 : Index := 2304#32
  ![v1701.toNat, 2304]
def k0_off40 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1738 : Index := Scalar.indexCast v158
  let c2432 : Index := 2432#32
  ![v1738.toNat, 2432]
def k0_off41 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1782 : Index := Scalar.indexCast v156
  let c2432_618 : Index := 2432#32
  ![v1782.toNat, 2432]
def k0_off42 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1819 : Index := Scalar.indexCast v158
  let c2560 : Index := 2560#32
  ![v1819.toNat, 2560]
def k0_off43 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1863 : Index := Scalar.indexCast v156
  let c2560_647 : Index := 2560#32
  ![v1863.toNat, 2560]
def k0_off44 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1900 : Index := Scalar.indexCast v158
  let c2688 : Index := 2688#32
  ![v1900.toNat, 2688]
def k0_off45 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v1944 : Index := Scalar.indexCast v156
  let c2688_676 : Index := 2688#32
  ![v1944.toNat, 2688]
def k0_off46 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v1981 : Index := Scalar.indexCast v158
  let c2816 : Index := 2816#32
  ![v1981.toNat, 2816]
def k0_off47 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2025 : Index := Scalar.indexCast v156
  let c2816_705 : Index := 2816#32
  ![v2025.toNat, 2816]
def k0_off48 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2062 : Index := Scalar.indexCast v158
  let c2944 : Index := 2944#32
  ![v2062.toNat, 2944]
def k0_off49 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2106 : Index := Scalar.indexCast v156
  let c2944_734 : Index := 2944#32
  ![v2106.toNat, 2944]
def k0_off50 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2143 : Index := Scalar.indexCast v158
  let c3072 : Index := 3072#32
  ![v2143.toNat, 3072]
def k0_off51 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2187 : Index := Scalar.indexCast v156
  let c3072_763 : Index := 3072#32
  ![v2187.toNat, 3072]
def k0_off52 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2224 : Index := Scalar.indexCast v158
  let c3200 : Index := 3200#32
  ![v2224.toNat, 3200]
def k0_off53 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2268 : Index := Scalar.indexCast v156
  let c3200_792 : Index := 3200#32
  ![v2268.toNat, 3200]
def k0_off54 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2305 : Index := Scalar.indexCast v158
  let c3328 : Index := 3328#32
  ![v2305.toNat, 3328]
def k0_off55 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2349 : Index := Scalar.indexCast v156
  let c3328_821 : Index := 3328#32
  ![v2349.toNat, 3328]
def k0_off56 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2386 : Index := Scalar.indexCast v158
  let c3456 : Index := 3456#32
  ![v2386.toNat, 3456]
def k0_off57 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2430 : Index := Scalar.indexCast v156
  let c3456_850 : Index := 3456#32
  ![v2430.toNat, 3456]
def k0_off58 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2467 : Index := Scalar.indexCast v158
  let c3584 : Index := 3584#32
  ![v2467.toNat, 3584]
def k0_off59 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2511 : Index := Scalar.indexCast v156
  let c3584_879 : Index := 3584#32
  ![v2511.toNat, 3584]
def k0_off60 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2548 : Index := Scalar.indexCast v158
  let c3712 : Index := 3712#32
  ![v2548.toNat, 3712]
def k0_off61 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2592 : Index := Scalar.indexCast v156
  let c3712_908 : Index := 3712#32
  ![v2592.toNat, 3712]
def k0_off62 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2629 : Index := Scalar.indexCast v158
  let c3840 : Index := 3840#32
  ![v2629.toNat, 3840]
def k0_off63 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2673 : Index := Scalar.indexCast v156
  let c3840_937 : Index := 3840#32
  ![v2673.toNat, 3840]
def k0_off64 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2710 : Index := Scalar.indexCast v158
  let c3968 : Index := 3968#32
  ![v2710.toNat, 3968]
def k0_off65 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2754 : Index := Scalar.indexCast v156
  let c3968_966 : Index := 3968#32
  ![v2754.toNat, 3968]
def k0_off66 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2791 : Index := Scalar.indexCast v158
  let c4096 : Index := 4096#32
  ![v2791.toNat, 4096]
def k0_off67 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2835 : Index := Scalar.indexCast v156
  let c4096_995 : Index := 4096#32
  ![v2835.toNat, 4096]
def k0_off68 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2872 : Index := Scalar.indexCast v158
  let c4224 : Index := 4224#32
  ![v2872.toNat, 4224]
def k0_off69 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2916 : Index := Scalar.indexCast v156
  let c4224_1024 : Index := 4224#32
  ![v2916.toNat, 4224]
def k0_off70 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v2953 : Index := Scalar.indexCast v158
  let c4352 : Index := 4352#32
  ![v2953.toNat, 4352]
def k0_off71 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v2997 : Index := Scalar.indexCast v156
  let c4352_1053 : Index := 4352#32
  ![v2997.toNat, 4352]
def k0_off72 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v3034 : Index := Scalar.indexCast v158
  let c4480 : Index := 4480#32
  ![v3034.toNat, 4480]
def k0_off73 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v3078 : Index := Scalar.indexCast v156
  let c4480_1082 : Index := 4480#32
  ![v3078.toNat, 4480]
def k0_off74 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v3115 : Index := Scalar.indexCast v158
  let c4608 : Index := 4608#32
  ![v3115.toNat, 4608]
def k0_off75 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v3159 : Index := Scalar.indexCast v156
  let c4608_1111 : Index := 4608#32
  ![v3159.toNat, 4608]
def k0_off76 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v3196 : Index := Scalar.indexCast v158
  let c4736 : Index := 4736#32
  ![v3196.toNat, 4736]
def k0_off77 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v3240 : Index := Scalar.indexCast v156
  let c4736_1140 : Index := 4736#32
  ![v3240.toNat, 4736]
def k0_off78 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v3277 : Index := Scalar.indexCast v158
  let c4864 : Index := 4864#32
  ![v3277.toNat, 4864]
def k0_off79 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v3321 : Index := Scalar.indexCast v156
  let c4864_1169 : Index := 4864#32
  ![v3321.toNat, 4864]
def k0_off80 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c128_i32_50 : BitVec 32 := 128#32
  let v157 : BitVec 32 := Scalar.muli arg12 c128_i32_50
  let v158 : BitVec 32 := v157
  let v3358 : Index := Scalar.indexCast v158
  let c4992 : Index := 4992#32
  ![v3358.toNat, 4992]
def k0_off81 (k0_t1 : Fin k0_t1_loop.trips) : Fin 2 → Nat :=
  let c0_i32_10 : BitVec 32 := 0#32
  let c1_i32_11 : BitVec 32 := 1#32
  let arg12 : BitVec 32 := Scf.iv c0_i32_10 c1_i32_11 k0_t1
  let c256_i32 : BitVec 32 := 256#32
  let v155 : BitVec 32 := Scalar.muli arg12 c256_i32
  let v156 : BitVec 32 := v155
  let v3402 : Index := Scalar.indexCast v156
  let c4992_1198 : Index := 4992#32
  ![v3402.toNat, 4992]
def k0_off82 (i : grid0.Coords) : Fin 3 → Nat :=
  let arg0 : BitVec 32 := BitVec.ofNat 32 (i 0).val
  let c2_i32 : BitVec 32 := 2#32
  let v0 : BitVec 32 := Scalar.remsi arg0 c2_i32
  let v146 : Index := Scalar.indexCast v0
  let c0_46 : Index := 0#32
  let c0_47 : Index := 0#32
  ![v146.toNat, 0, 0]
def k0_off83 (i : grid0.Coords) : Fin 3 → Nat :=
  let arg0 : BitVec 32 := BitVec.ofNat 32 (i 0).val
  let c2_i32 : BitVec 32 := 2#32
  let v0 : BitVec 32 := Scalar.remsi arg0 c2_i32
  let v151 : Index := Scalar.indexCast v0
  let c0_48 : Index := 0#32
  let c0_49 : Index := 0#32
  ![v151.toNat, 0, 0]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k0_off84 (i : grid0.Coords) : Fin 3 → Nat :=
  let arg0 : BitVec 32 := BitVec.ofNat 32 (i 0).val
  let c2_i32 : BitVec 32 := 2#32
  let v0 : BitVec 32 := Scalar.remsi arg0 c2_i32
  let v116 : Index := Scalar.indexCast v0
  let c0_33 : Index := 0#32
  let c0_34 : Index := 0#32
  ![v116.toNat, 0, 0]
def k0_off85 (i : grid0.Coords) : Fin 3 → Nat :=
  let arg0 : BitVec 32 := BitVec.ofNat 32 (i 0).val
  let c2_i32 : BitVec 32 := 2#32
  let v0 : BitVec 32 := Scalar.remsi arg0 c2_i32
  let v121 : Index := Scalar.indexCast v0
  let c0_35 : Index := 0#32
  let c0_36 : Index := 0#32
  ![v121.toNat, 0, 0]
def k0_off86 (i : grid0.Coords) : Fin 3 → Nat :=
  let c1_i32_37 : BitVec 32 := 1#32
  let arg0 : BitVec 32 := BitVec.ofNat 32 (i 0).val
  let c2_i32 : BitVec 32 := 2#32
  let v0 : BitVec 32 := Scalar.remsi arg0 c2_i32
  let v125 : BitVec 32 := Scalar.subi c1_i32_37 v0
  let v126 : Index := Scalar.indexCast v125
  let c0_38 : Index := 0#32
  let c0_39 : Index := 0#32
  ![v126.toNat, 0, 0]
def k0_off87 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v131 : BitVec 32 := Scalar.subi c1_i32_43 v0
  let v132 : Index := Scalar.indexCast v131
  let c0_44 : Index := 0#32
  let c0_45 : Index := 0#32
  ![v132.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x5120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x320 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S128x2x384 : Shape := ⟨3, ![128, 2, 384]⟩
abbrev S128x1x384 : Shape := ⟨3, ![128, 1, 384]⟩
abbrev S128x2x320 : Shape := ⟨3, ![128, 2, 320]⟩
abbrev S128x1x320 : Shape := ⟨3, ![128, 1, 320]⟩
abbrev S128x2x128 : Shape := ⟨3, ![128, 2, 128]⟩
abbrev S128x1x128 : Shape := ⟨3, ![128, 1, 128]⟩
  | .local _ .vmem, ⟨10, _⟩ => ⟨S128x2x384, .bf16⟩
variable {F : FTy → Type} [FloatOps F]
-- ==== ReferenceIdeal.lean ====
abbrev S2x6144x5120 : Shape := ⟨3, ![2, 6144, 5120]⟩
abbrev S896x5120 : Shape := ⟨2, ![896, 5120]⟩
abbrev S1792x320 : Shape := ⟨2, ![1792, 320]⟩
abbrev S_ : Shape := ⟨0, ![]⟩
abbrev S896x1x5120 : Shape := ⟨3, ![896, 1, 5120]⟩
abbrev S896x2x5120 : Shape := ⟨3, ![896, 2, 5120]⟩
abbrev S1792x5120 : Shape := ⟨2, ![1792, 5120]⟩
abbrev S1792x320x16 : Shape := ⟨3, ![1792, 320, 16]⟩
abbrev S1 : Shape := ⟨1, ![1]⟩
abbrev S12288x5120 : Shape := ⟨2, ![12288, 5120]⟩
abbrev S12288x1792 : Shape := ⟨2, ![12288, 1792]⟩
abbrev S12288x1 : Shape := ⟨2, ![12288, 1]⟩
abbrev S12288 : Shape := ⟨1, ![12288]⟩
abbrev S1x254 : Shape := ⟨2, ![1, 254]⟩
abbrev S12288x254 : Shape := ⟨2, ![12288, 254]⟩

abbrev nBuf : Space → Nat
  | .hbm => 22
  | .vmem => 6
  | .smem => 1
  | _ => 0

abbrev bufTy : (tb : Table) → Fin (tcTables nBuf tb) → BufTy
  | .hbm, ⟨0, _⟩ => ⟨S2x6144x5120, .bf16⟩
  | .hbm, ⟨1, _⟩ => ⟨S896x5120, .i8⟩
  | .hbm, ⟨2, _⟩ => ⟨S1792x320, .fp8e4m3⟩
  | .hbm, ⟨3, _⟩ => ⟨S_, .f32⟩
  | .hbm, ⟨4, _⟩ => ⟨S896x5120, .i32⟩
  | .hbm, ⟨5, _⟩ => ⟨S_, .i32⟩
  | .hbm, ⟨6, _⟩ => ⟨S896x5120, .i32⟩
  | .hbm, ⟨7, _⟩ => ⟨S896x5120, .i32⟩
  | .hbm, ⟨8, _⟩ => ⟨S_, .i32⟩
  | .hbm, ⟨9, _⟩ => ⟨S896x5120, .i32⟩
  | .hbm, ⟨10, _⟩ => ⟨S896x5120, .i32⟩
  | .hbm, ⟨11, _⟩ => ⟨S896x1x5120, .i32⟩
  | .hbm, ⟨12, _⟩ => ⟨S896x1x5120, .i32⟩
  | .hbm, ⟨13, _⟩ => ⟨S896x2x5120, .i32⟩
  | .hbm, ⟨14, _⟩ => ⟨S1792x5120, .i32⟩
  | .hbm, ⟨15, _⟩ => ⟨S1792x320x16, .fp8e4m3⟩
  | .hbm, ⟨16, _⟩ => ⟨S1792x5120, .fp8e4m3⟩
  | .hbm, ⟨17, _⟩ => ⟨S1, .f32⟩
  | .hbm, ⟨18, _⟩ => ⟨S12288x5120, .bf16⟩
  | .hbm, ⟨19, _⟩ => ⟨S12288x1792, .bf16⟩
  | .hbm, ⟨20, _⟩ => ⟨S12288x5120, .fp8e4m3⟩
  | .hbm, ⟨21, _⟩ => ⟨S12288x1, .f32⟩
  | .local _ .vmem, ⟨0, _⟩ => ⟨S12288x5120, .bf16⟩
  | .local _ .vmem, ⟨1, _⟩ => ⟨S1792x5120, .i32⟩
  | .local _ .vmem, ⟨2, _⟩ => ⟨S1792x5120, .fp8e4m3⟩
  | .local _ .vmem, ⟨3, _⟩ => ⟨S12288x1792, .bf16⟩
  | .local _ .vmem, ⟨4, _⟩ => ⟨S12288x5120, .fp8e4m3⟩
  | .local _ .vmem, ⟨5, _⟩ => ⟨S12288x1, .f32⟩
  | .local _ .smem, ⟨0, _⟩ => ⟨S1, .f32⟩
  | _, _ => ⟨S2x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x5120 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BRuns.lean ====
/- What the two runs of the kernel's body on machine numbers share: its branch conditions as facts about the grid point, where its
   windows are idle, and the staging and scratch buffers by name. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- A run that leaves the arrays no step writes as they were leaves the arguments as they were. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c)⟩) h

/-! ## The body's branch conditions -/

/-- The condition under which a step decodes the weights. -/
abbrev cond0_0 (i : grid0.Coords) : Prop := k0_cond1 i = 1#1
/-- It holds at the first step only. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition under which a step makes a product. -/
abbrev cond0_1 (i : grid0.Coords) : Prop := k0_cond2 i = 1#1
/-- It holds at every step but the first. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- The global scale is in use at every step. -/
theorem liveAt0_0 : ∀ t : Fin cfg0.N, cfg0.idle 0 (grid0.coords t) = false := fun _ => rfl
/-- The activations are in use at every step. -/
theorem liveAt0_1 : ∀ t : Fin cfg0.N, cfg0.idle 1 (grid0.coords t) = false := fun _ => rfl
/-- The packed weights are in use at every step. -/
theorem liveAt0_2 : ∀ t : Fin cfg0.N, cfg0.idle 2 (grid0.coords t) = false := fun _ => rfl
/-- The block scales are in use at every step. -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x320 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1792 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x384 .i32 := Memref.whole cc0_scratch0
abbrev scM0_1 : Memref sig .tc .vmem S1792x5120 .bf16 := Memref.whole cc0_scratch1
abbrev scM0_2 : Memref sig .tc .vmem S2x512x5120 .bf16 := Memref.whole cc0_scratch2
abbrev scM0_3 : Memref sig .tc .vmem S2x512x1 .f32 := Memref.whole cc0_scratch3

/-- The scratch buffers, one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Run

end
-- ==== Proof.BRunA.lean ====
/- The first step of the kernel on machine numbers runs to its end and leaves its inputs as they were. -/
module

public import proofs.«01_k».proof.Proof.BRuns

@[expose] public section

set_option maxRecDepth 16384

noncomputable section

namespace Cert.Kernel.Run

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first step: from its inputs, and anything in its outputs and scratch, it runs to its end with the inputs unchanged. -/
theorem kernelRun0_A (c : Dev nD) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x384 .i32) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (hc0 : cond0_0 i) (hc1 : ¬cond0_1 i)
    (x0 : Vec F S1 .f32) (x1 : Vec F S512x5120 .bf16) (x2 : Vec F S896x5120 .i8) (x3 : Vec F S1792x320 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11) K := by
    intro E K
    simp only [cc0_nvfp4_linear_eq_skeleton]; unfold cc0_nvfp4_linear_skel
    simp only [k0_part77_eq_skeleton, k0_part78_eq_skeleton, k0_part79_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BRunB.lean ====
/- A later step of the kernel on machine numbers runs to its end and leaves its inputs as they were. -/
module

public import proofs.«01_k».proof.Proof.BRunA

@[expose] public section

set_option maxRecDepth 16384

noncomputable section

namespace Cert.Kernel.Run

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later step: from its inputs, and anything in its outputs and scratch, it runs to its end with the inputs unchanged. -/
theorem kernelRun0_B (c : Dev nD) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x384 .i32) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (hc0 : ¬cond0_0 i) (hc1 : cond0_1 i)
    (x0 : Vec F S1 .f32) (x1 : Vec F S512x5120 .bf16) (x2 : Vec F S896x5120 .i8) (x3 : Vec F S1792x320 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11) K := by
    intro E K
    simp only [cc0_nvfp4_linear_eq_skeleton]; unfold cc0_nvfp4_linear_skel
    simp only [k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Run

end
-- ==== Proof.BFrame.lean ====
/- The kernel on machine numbers runs to its end from any memory, with its arguments unchanged: every grid point by its case. -/
module

public import proofs.«01_k».proof.Proof.BRunB
public import Idealize.ShloMosaic.Lib.Claim

@[expose] public section

set_option maxRecDepth 16384

noncomputable section

namespace Cert.Kernel.Run

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The three result windows, of whose contents nothing is said here. -/
def forgets0 : Fin 7 → Bool := fun w => w.val == 4 || w.val == 5 || w.val == 6

/-- What the steps leave: the inputs as they were, the results at anything, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The array that a window starts from. -/
theorem A_eq (c : Dev nD) (w : Fin cfg0.W) : (dats m 0 c).A w = V m c (Pipeline.arrRef spec0 w) := by
  dsimp only [dats]

/-- The global scale after a step: unchanged. -/
theorem after0_0 (c : Dev nD) (t : Fin cfg0.N) : (dats m 0 c).after 0 t = iblk m c 0 t := by dsimp only [dats]
/-- The activation block after a step: unchanged. -/
theorem after0_1 (c : Dev nD) (t : Fin cfg0.N) : (dats m 0 c).after 1 t = iblk m c 1 t := by dsimp only [dats]
/-- The packed weights after a step: unchanged. -/
theorem after0_2 (c : Dev nD) (t : Fin cfg0.N) : (dats m 0 c).after 2 t = iblk m c 2 t := by dsimp only [dats]
/-- The block scales after a step: unchanged. -/
theorem after0_3 (c : Dev nD) (t : Fin cfg0.N) : (dats m 0 c).after 3 t = iblk m c 3 t := by dsimp only [dats]

/-- The global scale before a step. -/
theorem before0_0 (c : Dev nD) (t : Fin cfg0.N) (d) : (dats m 0 c).before 0 t d = iblk m c 0 t :=
  before0_0_of m (dats m 0 c) (A_eq m c 0) (after0_0 m c) t d
/-- The activation block before a step. -/
theorem before0_1 (c : Dev nD) (t : Fin cfg0.N) (d) : (dats m 0 c).before 1 t d = iblk m c 1 t :=
  before0_1_of m (dats m 0 c) (A_eq m c 1) (after0_1 m c) t d
/-- The packed weights before a step. -/
theorem before0_2 (c : Dev nD) (t : Fin cfg0.N) (d) : (dats m 0 c).before 2 t d = iblk m c 2 t :=
  before0_2_of m (dats m 0 c) (A_eq m c 2) (after0_2 m c) t d
/-- The block scales before a step. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What a step starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- What a step leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- Every step runs to its end. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 25 := lt_of_lt_of_eq t.isLt (show cfg0.N = 25 from N_0)
  by_cases h0 : t.val % 25 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · exfalso; omega

/-- The body that the grid runs at a step. -/
theorem defs₀_row (t : Fin cfg0.N) :
    defs₀ (F := F) .tc cfg0.body (cfg0.bodyArgs t (cfg0.slots t)) = bodyAt0 t := by
  unfold defs₀; rw [Defs.onTc_tc]

/-- Every step runs to its end, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole program runs from any memory; every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same, without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- The frame claim: the program runs to its end, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run

end
-- ==== Proof.KRuns.lean ====
/- What the two runs of the kernel's body share: its branch conditions as facts about the grid point, where its windows are idle,
   and the staging and scratch buffers by name. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- The windows the kernel writes at every point, the codes and the scale, are never idle. -/
theorem liveAt0_5 : ∀ t : Fin cfg0.N, cfg0.idle 5 (grid0.coords t) = false := by decide +kernel
/-- Likewise the scale's. -/
theorem liveAt0_6 : ∀ t : Fin cfg0.N, cfg0.idle 6 (grid0.coords t) = false := by decide +kernel
/-- The product's window is idle at the first point only, -/
theorem liveAt0_4_B : ∀ t : Fin cfg0.N, cond0_1 (grid0.coords t) → cfg0.idle 4 (grid0.coords t) = false := by decide +kernel
/-- where nothing has been multiplied yet. -/
theorem idleAt0_4_A : ∀ t : Fin cfg0.N, ¬cond0_1 (grid0.coords t) → cfg0.idle 4 (grid0.coords t) = true := by decide +kernel
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x320 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1792 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x2x384 .bf16 := Memref.whole cc0_scratch0
abbrev scM0_1 : Memref sig .tc .vmem S1792x5120 .bf16 := Memref.whole cc0_scratch1
abbrev scM0_2 : Memref sig .tc .vmem S2x512x5120 .bf16 := Memref.whole cc0_scratch2
abbrev scM0_3 : Memref sig .tc .vmem S2x512x1 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Run

end
-- ==== Proof.KTrip.lean ====
/- The decoding loop's stores: each of a trip's forty is one and the same function of the packed words of its chunk and of the scales' rows. -/
module

public import proofs.«01_k».proof.Proof.KRuns
public import Idealize.ShloMosaic.Lib.Claim
public import Idealize.ShloMosaic.Lib.VecWindow
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one chunk stores: the codes of the packed words `wp`, each times the block scale that `s8` holds at its lane's place from `off` on. -/
def CH (off : BitVec 32) (s8 : Vec F S128x2x128 .bf16) (wp : Vec F S128x128 .i8) : Vec F S256x128 .bf16 :=
  k0_pay13 (k0_pay9
    (dynamicGather 1 (extf .f32 (shapeCast S128x128 (rowsOfParity 0 S128x1x128 s8 bitcasts_S128x2x128_w16_S128x1x128_w32) shapeCasts_S128x1x128_S128x128))
    (shapeCast S128x128 (shapeCast S128x128x1 (select (cmpi .slt (addi k0_pay328 (broadcast S128x128 off)) (broadcast S128x128 0#32)) (addi (addi k0_pay328 (broadcast S128x128 off)) (broadcast S128x128 128#32)) (addi k0_pay328 (broadcast S128x128 off))) shapeCasts_S128x128_S128x128x1) shapeCasts_S128x128x1_S128x128))
    (dynamicGather 1 (extf .f32 (shapeCast S128x128 (rowsOfParity 1 S128x1x128 s8 bitcasts_S128x2x128_w16_S128x1x128_w32) shapeCasts_S128x1x128_S128x128))
    (shapeCast S128x128 (shapeCast S128x128x1 (select (cmpi .slt (addi k0_pay328 (broadcast S128x128 off)) (broadcast S128x128 0#32)) (addi (addi k0_pay328 (broadcast S128x128 off)) (broadcast S128x128 128#32)) (addi k0_pay328 (broadcast S128x128 off))) shapeCasts_S128x128_S128x128x1) shapeCasts_S128x128x1_S128x128)))
    (k0_pay11 wp) (k0_pay12 wp) 16#32

set_option maxHeartbeats 8000000 in
/-- A trip's forty stores. -/
theorem trip_pieces (𝒱 : Variants) (c : Dev nD) (bd : Option 𝒱.V) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (k0_h1 : k0_cond1 i = 1#1) (X_arg3 : BufTy.Contents (Elt F) arg3.view.ty) (X_arg4 : BufTy.Contents (Elt F) arg4.view.ty) (k : Fin k0_t1_loop.trips)
    (f8 : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 arg10 harg10 arg11 harg11 k0_h1 X_arg3 X_arg4 k).2.1 f8 f9 =
      [⟨Rect.unit (k0_off81 k) S256x128.size (k0_off81_inb i k k0_h1), CH (F := F) 56#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off80 k) S128x128.size (k0_off80_inb i k k0_h1)).toLoadRect X_arg3)⟩,
      ⟨Rect.unit (k0_off79 k) S256x128.size (k0_off79_inb i k k0_h1), CH (F := F) 48#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off78 k) S128x128.size (k0_off78_inb i k k0_h1)).toLoadRect X_arg3)⟩,
      ⟨Rect.unit (k0_off77 k) S256x128.size (k0_off77_inb i k k0_h1), CH (F := F) 40#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off76 k) S128x128.size (k0_off76_inb i k k0_h1)).toLoadRect X_arg3)⟩,
      ⟨Rect.unit (k0_off75 k) S256x128.size (k0_off75_inb i k k0_h1), CH (F := F) 32#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off74 k) S128x128.size (k0_off74_inb i k k0_h1)).toLoadRect X_arg3)⟩,
      ⟨Rect.unit (k0_off73 k) S256x128.size (k0_off73_inb i k k0_h1), CH (F := F) 24#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off72 k) S128x128.size (k0_off72_inb i k k0_h1)).toLoadRect X_arg3)⟩,
      ⟨Rect.unit (k0_off71 k) S256x128.size (k0_off71_inb i k k0_h1), CH (F := F) 16#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off70 k) S128x128.size (k0_off70_inb i k k0_h1)).toLoadRect X_arg3)⟩,
      ⟨Rect.unit (k0_off69 k) S256x128.size (k0_off69_inb i k k0_h1), CH (F := F) 8#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off68 k) S128x128.size (k0_off68_inb i k k0_h1)).toLoadRect X_arg3)⟩,
      ⟨Rect.unit (k0_off67 k) S256x128.size (k0_off67_inb i k k0_h1), CH (F := F) 0#32 (View.readAt (Elt F) arg8.view (Rect.unit (s := S128x2x384) ![0, 0, 256] S128x2x128.size inb_S128x2x384_S128x2x128_0_0_256).toLoadRect (arg8.view.writes (Elt F) f8 (trip_k0_t1.sl.HW_arg8_1 i arg4 k0_h1 X_arg4 k))) (View.readAt (Elt F) arg3.view (Rect.unit (s := S896x5120) (k0_off66 k) S128x128.size (k0_off66_inb i k k0_h1)).toLoadRect X_arg3)⟩,
      ⟨Rect.unit (k0_off65 k) S256x128.size (k0_off65_inb i k k0_h1), CH (F := F) 120#32 (trip_k0_t1.sl.v1462_raw i arg4 arg8 k0_h1 X_arg4 k) (View.readAt (Elt F) arg3.view (Rect.unit (s := S896x5120) (k0_off64 k) S128x128.size (k0_off64_inb i k k0_h1)).toLoadRect X_arg3)⟩,
      ⟨Rect.unit (k0_off63 k) S256x128.size (k0_off63_inb i k k0_h1), CH (F := F) 112#32 (trip_k0_t1.sl.v1462_raw i arg4 arg8 k0_h1 X_arg4 k) (View.readAt (Elt F) arg3.view (Rect.unit (s := S896x5120) (k0_off62 k) S128x128.size (k0_off62_inb i k k0_h1)).toLoadRect X_arg3)⟩,
      ⟨Rect.unit (k0_off61 k) S256x128.size (k0_off61_inb i k k0_h1), CH (F := F) 104#32 (trip_k0_t1.sl.v1462_raw i arg4 arg8 k0_h1 X_arg4 k) (View.readAt (Elt F) arg3.view (Rect.unit (s := S896x5120) (k0_off60 k) S128x128.size (k0_off60_inb i k k0_h1)).toLoadRect X_arg3)⟩,
      ⟨Rect.unit (k0_off59 k) S256x128.size (k0_off59_inb i k k0_h1), CH (F := F) 96#32 (trip_k0_t1.sl.v1462_raw i arg4 arg8 k0_h1 X_arg4 k) (View.readAt (Elt F) arg3.view (Rect.unit (s := S896x5120) (k0_off58 k) S128x128.size (k0_off58_inb i k k0_h1)).toLoadRect X_arg3)⟩,
      ⟨Rect.unit (k0_off57 k) S256x128.size (k0_off57_inb i k k0_h1), CH (F := F) 88#32 (trip_k0_t1.sl.v1462_raw i arg4 arg8 k0_h1 X_arg4 k) (View.readAt (Elt F) arg3.view (Rect.unit (s := S896x5120) (k0_off56 k) S128x128.size (k0_off56_inb i k k0_h1)).toLoadRect X_arg3)⟩,
      ⟨Rect.unit (k0_off55 k) S256x128.size (k0_off55_inb i k k0_h1), CH (F := F) 80#32 (trip_k0_t1.sl.v1462_raw i arg4 arg8 k0_h1 X_arg4 k) (View.readAt (Elt F) arg3.view (Rect.unit (s := S896x5120) (k0_off54 k) S128x128.size (k0_off54_inb i k k0_h1)).toLoadRect X_arg3)⟩,
      ⟨Rect.unit (k0_off53 k) S256x128.size (k0_off53_inb i k k0_h1), CH (F := F) 72#32 (trip_k0_t1.sl.v1462_raw i arg4 arg8 k0_h1 X_arg4 k) (View.readAt (Elt F) arg3.view (Rect.unit (s := S896x5120) (k0_off52 k) S128x128.size (k0_off52_inb i k k0_h1)).toLoadRect X_arg3)⟩,
      ⟨Rect.unit (k0_off51 k) S256x128.size (k0_off51_inb i k k0_h1), CH (F := F) 64#32 (trip_k0_t1.sl.v1462_raw i arg4 arg8 k0_h1 X_arg4 k) (View.readAt (Elt F) arg3.view (Rect.unit (s := S896x5120) (k0_off50 k) S128x128.size (k0_off50_inb i k k0_h1)).toLoadRect X_arg3)⟩,
      ⟨Rect.unit (k0_off49 k) S256x128.size (k0_off49_inb i k k0_h1), CH (F := F) 56#32 (trip_k0_t1.sl.v1462_raw i arg4 arg8 k0_h1 X_arg4 k) (View.readAt (Elt F) arg3.view (Rect.unit (s := S896x5120) (k0_off48 k) S128x128.size (k0_off48_inb i k k0_h1)).toLoadRect X_arg3)⟩,
      ⟨Rect.unit (k0_off47 k) S256x128.size (k0_off47_inb i k k0_h1), CH (F := F) 48#32 (trip_k0_t1.sl.v1462_raw i arg4 arg8 k0_h1 X_arg4 k) (View.readAt (Elt F) arg3.view (Rect.unit (s := S896x5120) (k0_off46 k) S128x128.size (k0_off46_inb i k k0_h1)).toLoadRect X_arg3)⟩,
      ⟨Rect.unit (k0_off45 k) S256x128.size (k0_off45_inb i k k0_h1), CH (F := F) 40#32 (trip_k0_t1.sl.v1462_raw i arg4 arg8 k0_h1 X_arg4 k) (View.readAt (Elt F) arg3.view (Rect.unit (s := S896x5120) (k0_off44 k) S128x128.size (k0_off44_inb i k k0_h1)).toLoadRect X_arg3)⟩,
      ⟨Rect.unit (k0_off43 k) S256x128.size (k0_off43_inb i k k0_h1), CH (F := F) 32#32 (trip_k0_t1.sl.v1462_raw i arg4 arg8 k0_h1 X_arg4 k) (View.readAt (Elt F) arg3.view (Rect.unit (s := S896x5120) (k0_off42 k) S128x128.size (k0_off42_inb i k k0_h1)).toLoadRect X_arg3)⟩,
      ⟨Rect.unit (k0_off41 k) S256x128.size (k0_off41_inb i k k0_h1), CH (F := F) 24#32 (trip_k0_t1.sl.v1462_raw i arg4 arg8 k0_h1 X_arg4 k) (View.readAt (Elt F) arg3.view (Rect.unit (s := S896x5120) (k0_off40 k) S128x128.size (k0_off40_inb i k k0_h1)).toLoadRect X_arg3)⟩,
      ⟨Rect.unit (k0_off39 k) S256x128.size (k0_off39_inb i k k0_h1), CH (F := F) 16#32 (trip_k0_t1.sl.v1462_raw i arg4 arg8 k0_h1 X_arg4 k) (View.readAt (Elt F) arg3.view (Rect.unit (s := S896x5120) (k0_off38 k) S128x128.size (k0_off38_inb i k k0_h1)).toLoadRect X_arg3)⟩,
      ⟨Rect.unit (k0_off37 k) S256x128.size (k0_off37_inb i k k0_h1), CH (F := F) 8#32 (trip_k0_t1.sl.v1462_raw i arg4 arg8 k0_h1 X_arg4 k) (View.readAt (Elt F) arg3.view (Rect.unit (s := S896x5120) (k0_off36 k) S128x128.size (k0_off36_inb i k k0_h1)).toLoadRect X_arg3)⟩,
      ⟨Rect.unit (k0_off35 k) S256x128.size (k0_off35_inb i k k0_h1), CH (F := F) 0#32 (trip_k0_t1.sl.v1462_raw i arg4 arg8 k0_h1 X_arg4 k) (View.readAt (Elt F) arg3.view (Rect.unit (s := S896x5120) (k0_off34 k) S128x128.size (k0_off34_inb i k k0_h1)).toLoadRect X_arg3)⟩,
      ⟨Rect.unit (k0_off33 k) S256x128.size (k0_off33_inb i k k0_h1), CH (F := F) 120#32 (trip_k0_t1.sl.v166_raw i arg4 arg8 k0_h1 X_arg4 k) (View.readAt (Elt F) arg3.view (Rect.unit (s := S896x5120) (k0_off32 k) S128x128.size (k0_off32_inb i k k0_h1)).toLoadRect X_arg3)⟩,
      ⟨Rect.unit (k0_off31 k) S256x128.size (k0_off31_inb i k k0_h1), CH (F := F) 112#32 (trip_k0_t1.sl.v166_raw i arg4 arg8 k0_h1 X_arg4 k) (View.readAt (Elt F) arg3.view (Rect.unit (s := S896x5120) (k0_off30 k) S128x128.size (k0_off30_inb i k k0_h1)).toLoadRect X_arg3)⟩,
      ⟨Rect.unit (k0_off29 k) S256x128.size (k0_off29_inb i k k0_h1), CH (F := F) 104#32 (trip_k0_t1.sl.v166_raw i arg4 arg8 k0_h1 X_arg4 k) (View.readAt (Elt F) arg3.view (Rect.unit (s := S896x5120) (k0_off28 k) S128x128.size (k0_off28_inb i k k0_h1)).toLoadRect X_arg3)⟩,
      ⟨Rect.unit (k0_off27 k) S256x128.size (k0_off27_inb i k k0_h1), CH (F := F) 96#32 (trip_k0_t1.sl.v166_raw i arg4 arg8 k0_h1 X_arg4 k) (View.readAt (Elt F) arg3.view (Rect.unit (s := S896x5120) (k0_off26 k) S128x128.size (k0_off26_inb i k k0_h1)).toLoadRect X_arg3)⟩,
      ⟨Rect.unit (k0_off25 k) S256x128.size (k0_off25_inb i k k0_h1), CH (F := F) 88#32 (trip_k0_t1.sl.v166_raw i arg4 arg8 k0_h1 X_arg4 k) (View.readAt (Elt F) arg3.view (Rect.unit (s := S896x5120) (k0_off24 k) S128x128.size (k0_off24_inb i k k0_h1)).toLoadRect X_arg3)⟩,
      ⟨Rect.unit (k0_off23 k) S256x128.size (k0_off23_inb i k k0_h1), CH (F := F) 80#32 (trip_k0_t1.sl.v166_raw i arg4 arg8 k0_h1 X_arg4 k) (View.readAt (Elt F) arg3.view (Rect.unit (s := S896x5120) (k0_off22 k) S128x128.size (k0_off22_inb i k k0_h1)).toLoadRect X_arg3)⟩,
      ⟨Rect.unit (k0_off21 k) S256x128.size (k0_off21_inb i k k0_h1), CH (F := F) 72#32 (trip_k0_t1.sl.v166_raw i arg4 arg8 k0_h1 X_arg4 k) (View.readAt (Elt F) arg3.view (Rect.unit (s := S896x5120) (k0_off20 k) S128x128.size (k0_off20_inb i k k0_h1)).toLoadRect X_arg3)⟩,
      ⟨Rect.unit (k0_off19 k) S256x128.size (k0_off19_inb i k k0_h1), CH (F := F) 64#32 (trip_k0_t1.sl.v166_raw i arg4 arg8 k0_h1 X_arg4 k) (View.readAt (Elt F) arg3.view (Rect.unit (s := S896x5120) (k0_off18 k) S128x128.size (k0_off18_inb i k k0_h1)).toLoadRect X_arg3)⟩,
      ⟨Rect.unit (k0_off17 k) S256x128.size (k0_off17_inb i k k0_h1), CH (F := F) 56#32 (trip_k0_t1.sl.v166_raw i arg4 arg8 k0_h1 X_arg4 k) (View.readAt (Elt F) arg3.view (Rect.unit (s := S896x5120) (k0_off16 k) S128x128.size (k0_off16_inb i k k0_h1)).toLoadRect X_arg3)⟩,
      ⟨Rect.unit (k0_off15 k) S256x128.size (k0_off15_inb i k k0_h1), CH (F := F) 48#32 (trip_k0_t1.sl.v166_raw i arg4 arg8 k0_h1 X_arg4 k) (View.readAt (Elt F) arg3.view (Rect.unit (s := S896x5120) (k0_off14 k) S128x128.size (k0_off14_inb i k k0_h1)).toLoadRect X_arg3)⟩,
      ⟨Rect.unit (k0_off13 k) S256x128.size (k0_off13_inb i k k0_h1), CH (F := F) 40#32 (trip_k0_t1.sl.v166_raw i arg4 arg8 k0_h1 X_arg4 k) (View.readAt (Elt F) arg3.view (Rect.unit (s := S896x5120) (k0_off12 k) S128x128.size (k0_off12_inb i k k0_h1)).toLoadRect X_arg3)⟩,
      ⟨Rect.unit (k0_off11 k) S256x128.size (k0_off11_inb i k k0_h1), CH (F := F) 32#32 (trip_k0_t1.sl.v166_raw i arg4 arg8 k0_h1 X_arg4 k) (View.readAt (Elt F) arg3.view (Rect.unit (s := S896x5120) (k0_off10 k) S128x128.size (k0_off10_inb i k k0_h1)).toLoadRect X_arg3)⟩,
      ⟨Rect.unit (k0_off9 k) S256x128.size (k0_off9_inb i k k0_h1), CH (F := F) 24#32 (trip_k0_t1.sl.v166_raw i arg4 arg8 k0_h1 X_arg4 k) (View.readAt (Elt F) arg3.view (Rect.unit (s := S896x5120) (k0_off8 k) S128x128.size (k0_off8_inb i k k0_h1)).toLoadRect X_arg3)⟩,
      ⟨Rect.unit (k0_off7 k) S256x128.size (k0_off7_inb i k k0_h1), CH (F := F) 16#32 (trip_k0_t1.sl.v166_raw i arg4 arg8 k0_h1 X_arg4 k) (View.readAt (Elt F) arg3.view (Rect.unit (s := S896x5120) (k0_off6 k) S128x128.size (k0_off6_inb i k k0_h1)).toLoadRect X_arg3)⟩,
      ⟨Rect.unit (k0_off5 k) S256x128.size (k0_off5_inb i k k0_h1), CH (F := F) 8#32 (trip_k0_t1.sl.v166_raw i arg4 arg8 k0_h1 X_arg4 k) (View.readAt (Elt F) arg3.view (Rect.unit (s := S896x5120) (k0_off4 k) S128x128.size (k0_off4_inb i k k0_h1)).toLoadRect X_arg3)⟩,
      ⟨Rect.unit (k0_off3 k) S256x128.size (k0_off3_inb i k k0_h1), CH (F := F) 0#32 (trip_k0_t1.sl.v166_raw i arg4 arg8 k0_h1 X_arg4 k) (View.readAt (Elt F) arg3.view (Rect.unit (s := S896x5120) (k0_off2 k) S128x128.size (k0_off2_inb i k k0_h1)).toLoadRect X_arg3)⟩] := by
  unfold trip_k0_t1
  dsimp only
  iterate 40 refine congrArg₂ List.cons (by rfl) ?_
  rfl

end Cert.KernelIdeal.Run

end
-- ==== Proof.KRunA.lean ====
/- The first step of the kernel: it decodes the weights into scratch, quantises the first row block,
   and leaves the codes and scales in the first slot. -/
module

public import proofs.«01_k».proof.Proof.KRuns
public import Idealize.ShloMosaic.Lib.VecWindow
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The quantiser's exponent word of a tile's rows, as the kernel computes it: the power of two of the scale. -/
def expOf (x : Vec F S512x5120 .bf16) : IVec S512x1 32 :=
  k0_pay345 (k0_pay341 x) (k0_pay342 x) (k0_pay343 x) (k0_pay344 x)

/-- The scales of a tile's rows. -/
def scaleOf (x : Vec F S512x5120 .bf16) : FVec F S512x1 .f32 := k0_pay346 (expOf x) 127#32

/-- The codes of a tile's rows. -/
def codesOf (x : Vec F S512x5120 .bf16) : FVec F S512x5120 .fp8e4m3 := k0_pay347 (k0_pay340 x) (expOf x)

/-- The codes as the slot of the ring that the product reads at the next point. -/
def slotX (x : Vec F S512x5120 .bf16) : FVec F S1x512x5120 .bf16 := k0_pay349 (k0_pay340 x) (expOf x)

/-- The scales as the slot of their ring. -/
def slotS (x : Vec F S512x5120 .bf16) : FVec F S1x512x1 .f32 := k0_pay348 (expOf x) 127#32

/-- The same exponent as the first grid point's code computes it, cut into other parts. -/
def expA (x : Vec F S512x5120 .bf16) : IVec S512x1 32 :=
  k0_pay337 (k0_pay332 (k0_pay331 x) (Scalar.ofBits .f32 0x3B124925#32)) (k0_pay333 (k0_pay331 x) (Scalar.ofBits .f32 0x3B124925#32))
    (k0_pay334 (k0_pay331 x) (Scalar.ofBits .f32 0x3B124925#32)) (k0_pay335 (k0_pay331 x) (Scalar.ofBits .f32 0x3B124925#32)) k0_pay336

/-- Both cuts are the same operations. -/
theorem expA_eq (x : Vec F S512x5120 .bf16) : expA x = expOf x := by
  have h1 : k0_pay332 (k0_pay331 x) (Scalar.ofBits .f32 0x3B124925#32) = k0_pay341 x := rfl
  have h2 : k0_pay333 (k0_pay331 x) (Scalar.ofBits .f32 0x3B124925#32) = k0_pay342 x := rfl
  unfold expA expOf
  unfold k0_pay335 k0_pay334 k0_pay344
  rw [h1, h2]
  unfold k0_pay343
  generalize k0_pay341 x = q
  generalize k0_pay342 x = z
  rfl

/-- The first grid point's codes, scales and ring slots, cut as its code is. -/
def expNA (x : Vec F S512x5120 .bf16) : IVec S512x1 32 :=
  k0_pay339 (k0_pay332 (k0_pay331 x) (Scalar.ofBits .f32 0x3B124925#32)) (k0_pay333 (k0_pay331 x) (Scalar.ofBits .f32 0x3B124925#32))
    (k0_pay334 (k0_pay331 x) (Scalar.ofBits .f32 0x3B124925#32)) (k0_pay335 (k0_pay331 x) (Scalar.ofBits .f32 0x3B124925#32)) k0_pay336
/-- Likewise. -/
def scaleA (x : Vec F S512x5120 .bf16) : FVec F S512x1 .f32 :=
  k0_pay338 (k0_pay332 (k0_pay331 x) (Scalar.ofBits .f32 0x3B124925#32)) (k0_pay333 (k0_pay331 x) (Scalar.ofBits .f32 0x3B124925#32))
    (k0_pay334 (k0_pay331 x) (Scalar.ofBits .f32 0x3B124925#32)) (k0_pay335 (k0_pay331 x) (Scalar.ofBits .f32 0x3B124925#32)) k0_pay336
/-- Likewise. -/
def codesA (x : Vec F S512x5120 .bf16) : FVec F S512x5120 .fp8e4m3 := k0_pay1 (k0_pay330 x) (expNA x) 23#32
/-- Likewise. -/
def slotXA (x : Vec F S512x5120 .bf16) : FVec F S1x512x5120 .bf16 := k0_pay3 (k0_pay330 x) (expNA x) 23#32
/-- Likewise. -/
def slotSA (x : Vec F S512x5120 .bf16) : FVec F S1x512x1 .f32 := k0_pay2 (scaleA x)

/-- They are the other points' codes, -/
theorem codesA_eq (x : Vec F S512x5120 .bf16) : codesA x = codesOf x := by
  have h : expNA x = subi (broadcast S512x1 127#32) (expA x) := rfl
  unfold codesA codesOf; rw [h, expA_eq]; generalize expOf x = e; rfl
/-- scales -/
theorem scaleA_eq (x : Vec F S512x5120 .bf16) : scaleA x = scaleOf x := by
  have h : scaleA x = k0_pay346 (expA x) 127#32 := rfl
  rw [h, expA_eq]; rfl
/-- and slots. -/
theorem slotXA_eq (x : Vec F S512x5120 .bf16) : slotXA x = slotX x := by
  have h : expNA x = subi (broadcast S512x1 127#32) (expA x) := rfl
  unfold slotXA slotX; rw [h, expA_eq]; generalize expOf x = e; rfl
/-- Likewise. -/
theorem slotSA_eq (x : Vec F S512x5120 .bf16) : slotSA x = slotS x := by
  unfold slotSA; rw [scaleA_eq]; rfl

set_option maxHeartbeats 1000000 in
/-- The body at the first grid point: it decodes the weights into their scratch (`hW` names what the decoding loop leaves there),
    quantises the tile, and stores the tile's codes and scales into the results and into the ring; the product's buffer is not touched. -/
theorem runA (c : Dev nD) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (hc0 : cond0_0 i) (hc1 : ¬cond0_1 i)
    (x0 : Vec F S1 .f32) (x1 : Vec F S512x5120 .bf16) (x2 : Vec F S896x5120 .i8) (x3 : Vec F S1792x320 .fp8e4m3)
    (d4 : Vec F S512x1792 .bf16) (d10 : Vec F S2x512x5120 .bf16) (d11 : Vec F S2x512x1 .f32) (W : Vec F S1792x5120 .bf16)
    (hW : ∀ (f8 : BufTy.Contents (Elt F) arg8.view.ty) (f9 : BufTy.Contents (Elt F) arg9.view.ty),
      arg9.view.read (Elt F) (arg9.view.writes (Elt F) f9 (pb_k0_t1 (F := F) Variants.none c none i arg1 harg1 arg2 harg2 arg3 harg3 arg4 harg4 arg5 harg5 arg6 harg6 arg7 harg7 arg8 harg8 arg9 harg9 arg10 harg10 arg11 harg11 hc0 (harg3.unread x2) (harg4.unread x3) f8 f9 7).2) = W) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d10 ∗ owns (c : Thread nD τ) arg11 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare (codesOf x1) ∗ owns (c : Thread nD τ) arg7 fullShare (scaleOf x1) ∗ (∃ d, owns (c : Thread nD τ) arg8 fullShare d) ∗ owns (c : Thread nD τ) arg9 fullShare W ∗ owns (c : Thread nD τ) arg10 fullShare (VecWindow.put d10 (k0_off83 i) S1x512x5120.size (slotX x1)) ∗ owns (c : Thread nD τ) arg11 fullShare (VecWindow.put d11 (k0_off82 i) S1x512x1.size (slotS x1))) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11) K := by
    intro E K
    simp only [cc0_nvfp4_linear_eq_skeleton]; unfold cc0_nvfp4_linear_skel
    simp only [k0_part73_eq_skeleton, k0_part74_eq_skeleton, k0_part75_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3
    obtain rfl := harg5.eq_unread hf4; obtain rfl := harg10.eq_unread hfs2; obtain rfl := harg11.eq_unread hfs3
    sl_exec (disch := first | sl_exact hc0 | sl_exact hc1)
    sl_step
    have hx : arg2.view.readAt (Elt F) (Rect.unit (s := S512x5120) ![0, 0] S512x5120.size inb_S512x5120_S512x5120_0_0).toLoadRect (harg2.unread x1) = x1 :=
      (View.readAt_full _ _ _).trans (harg2.read_unread x1)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_full _ _ _ _ _).trans ?_
      exact (congrArg codesA hx).trans (codesA_eq x1)
    isplitl [H6]
    · iexists _; isplitr; swap; · iexact H6
      ipureintro
      refine (View.read_writes_full _ _ _ _ _).trans ?_
      exact (congrArg scaleA hx).trans (scaleA_eq x1)
    isplitl [HS0]
    · iexists _, _; isplitr; swap; · iexact HS0
      ipureintro; rfl
    isplitl [HS1]
    · iexists _; isplitr; swap; · iexact HS1
      ipureintro
      exact hW _ _
    isplitl [HS2]
    · iexists _; isplitr; swap; · iexact HS2
      ipureintro
      refine (View.read_writes_cons_put _ _ _ _ _ rfl).trans ?_
      rw [View.writes_nil, harg10.read_unread]; refine congrArg (VecWindow.put _ _ _) ?_
      exact (congrArg slotXA hx).trans (slotXA_eq x1)
    iexists _; isplitr; swap; · iexact HS3
    ipureintro
    refine (View.read_writes_cons_put _ _ _ _ _ rfl).trans ?_
    rw [View.writes_nil, harg11.read_unread]; refine congrArg (VecWindow.put _ _ _) ?_
    exact (congrArg slotSA hx).trans (slotSA_eq x1)

end Cert.KernelIdeal.Run

end
-- ==== Proof.KRunB.lean ====
/- A later step of the kernel: it quantises its row block into one slot and multiplies the row block
   of the step before, from the other slot, by the decoded weights. -/
module

public import proofs.«01_k».proof.Proof.KRunA
public import Idealize.ShloMosaic.Lib.VecWindow
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point multiplies and stores: the ring's codes `xb` by the decoded weights, rescaled by the ring's scales and the global scale. -/
def prodOf (x0 : Vec F S1 .f32) (W : Vec F S1792x5120 .bf16) (xb : Vec F S1x512x5120 .bf16) (s : Vec F S1x512x1 .f32) : FVec F S512x1792 .bf16 :=
  k0_pay4 (k0_pay350 xb W) s (x0 fun a => ⟨0, by fin_cases a; decide⟩)

set_option maxHeartbeats 1000000 in
/-- The body at a later grid point: it quantises the point's tile into the results and into one slot of the ring,
    and multiplies the ring's other slot, `p10` and `p11`, by the decoded weights. -/
theorem runB (c : Dev nD) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (hc0 : ¬cond0_0 i) (hc1 : cond0_1 i)
    (x0 : Vec F S1 .f32) (x1 : Vec F S512x5120 .bf16) (x2 : Vec F S896x5120 .i8) (x3 : Vec F S1792x320 .fp8e4m3)
    (W : Vec F S1792x5120 .bf16) (d10 : Vec F S2x512x5120 .bf16) (d11 : Vec F S2x512x1 .f32) (p10 : Vec F S1x512x5120 .bf16) (p11 : Vec F S1x512x1 .f32)
    (h10 : VecWindow.window (VecWindow.put d10 (k0_off85 i) S1x512x5120.size (slotX x1)) (k0_off86 i) S1x512x5120.size (k0_off86_inb i hc1) = p10)
    (h11 : VecWindow.window (VecWindow.put d11 (k0_off84 i) S1x512x1.size (slotS x1)) (k0_off87 i) S1x512x1.size (k0_off87_inb i hc1) = p11) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare W ∗ owns (c : Thread nD τ) arg10 fullShare d10 ∗ owns (c : Thread nD τ) arg11 fullShare d11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (prodOf x0 W p10 p11) ∗ owns (c : Thread nD τ) arg6 fullShare (codesOf x1) ∗ owns (c : Thread nD τ) arg7 fullShare (scaleOf x1) ∗ (∃ d, owns (c : Thread nD τ) arg8 fullShare d) ∗ owns (c : Thread nD τ) arg9 fullShare W ∗ owns (c : Thread nD τ) arg10 fullShare (VecWindow.put d10 (k0_off85 i) S1x512x5120.size (slotX x1)) ∗ owns (c : Thread nD τ) arg11 fullShare (VecWindow.put d11 (k0_off84 i) S1x512x1.size (slotS x1))) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11) K := by
    intro E K
    simp only [cc0_nvfp4_linear_eq_skeleton]; unfold cc0_nvfp4_linear_skel
    simp only [k0_part76_eq_skeleton, k0_part77_eq_skeleton, k0_part78_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3
    obtain rfl := harg9.eq_unread hfs1; obtain rfl := harg10.eq_unread hfs2; obtain rfl := harg11.eq_unread hfs3
    sl_exec (disch := first | sl_exact hc0 | sl_exact hc1)
    sl_step
    have hx : arg2.view.readAt (Elt F) (Rect.unit (s := S512x5120) ![0, 0] S512x5120.size inb_S512x5120_S512x5120_0_0).toLoadRect (harg2.unread x1) = x1 :=
      (View.readAt_full _ _ _).trans (harg2.read_unread x1)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      delta runB.sl.r_6 runB.sl.v133 runB.sl.r_7 runB.sl.HS2_1 runB.sl.HS3_1; dsimp only
      unfold prodOf
      refine congr (congr (congrArg k0_pay4 (congr (congrArg k0_pay350 ?_) ?_)) ?_) ?_
      · refine (View.readAt_unit _ _ _ rfl (k0_off86_inb i hc1)).trans (Eq.trans (congrArg (fun z => VecWindow.window z _ _ _) ?_) h10)
        refine (View.read_writes_cons_put _ _ _ _ _ rfl).trans ?_
        rw [View.writes_nil, harg10.read_unread]; refine congrArg (VecWindow.put _ _ _) ?_
        exact congrArg slotX hx
      · exact (View.readAt_full _ _ _).trans (harg9.read_unread W)
      · refine (View.readAt_unit _ _ _ rfl (k0_off87_inb i hc1)).trans (Eq.trans (congrArg (fun z => VecWindow.window z _ _ _) ?_) h11)
        refine (View.read_writes_cons_put _ _ _ _ _ rfl).trans ?_
        rw [View.writes_nil, harg11.read_unread]; refine congrArg (VecWindow.put _ _ _) ?_
        exact congrArg slotS hx
      · refine (congrFun (View.readAt_full _ _ _) _).trans ((congrFun (harg1.read_unread x0) _).trans (congrArg x0 ?_))
        funext a; apply Fin.ext; fin_cases a; rfl
    isplitl [H5]
    · iexists _; isplitr; swap; · iexact H5
      ipureintro
      refine (View.read_writes_full _ _ _ _ _).trans ?_
      exact congrArg codesOf hx
    isplitl [H6]
    · iexists _; isplitr; swap; · iexact H6
      ipureintro
      refine (View.read_writes_full _ _ _ _ _).trans ?_
      exact congrArg scaleOf hx
    isplitl [HS0]
    · iexists _, _; isplitr; swap; · iexact HS0
      ipureintro; rfl
    isplitl [HS1]
    · iexists _; isplitr; · ipureintro; exact harg9.read_unread _
      iexact HS1
    isplitl [HS2]
    · iexists _; isplitr; swap; · iexact HS2
      ipureintro
      refine (View.read_writes_cons_put _ _ _ _ _ rfl).trans ?_
      rw [View.writes_nil, harg10.read_unread]; refine congrArg (VecWindow.put _ _ _) ?_
      exact congrArg slotX hx
    iexists _; isplitr; swap; · iexact HS3
    ipureintro
    refine (View.read_writes_cons_put _ _ _ _ _ rfl).trans ?_
    rw [View.writes_nil, harg11.read_unread]; refine congrArg (VecWindow.put _ _ _) ?_
    exact congrArg slotS hx

end Cert.KernelIdeal.Run

end
-- ==== Proof.KFrame.lean ====
/- The kernel over the extended reals, run: every grid point by its case (KRunA, KRunB), the scratch between the points tracked, up to what
   each result array holds after the run and the program's frame. -/
module

public import proofs.«01_k».proof.Proof.KRunB
public import Idealize.ShloMosaic.Lib.Claim
public import Idealize.ShloMosaic.Lib.VecWindow
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `Wd` is what the decoding loop leaves in the weights' scratch, whatever that and the scales' scratch held before. -/
def Decodes (Wd : Vec F S896x5120 .i8 → Vec F S1792x320 .fp8e4m3 → Vec F S1792x5120 .bf16) : Prop :=
  ∀ (c : Dev nD) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (hc0 : cond0_0 i) (x2 : Vec F S896x5120 .i8) (x3 : Vec F S1792x320 .fp8e4m3)
    (f8 : BufTy.Contents (Elt F) arg8.view.ty) (f9 : BufTy.Contents (Elt F) arg9.view.ty),
    arg9.view.read (Elt F) (arg9.view.writes (Elt F) f9 (pb_k0_t1 (F := F) Variants.none c none i arg1 harg1 arg2 harg2 arg3 harg3 arg4 harg4 arg5 harg5 arg6 harg6 arg7 harg7 arg8 harg8 arg9 harg9 arg10 harg10 arg11 harg11 hc0 (harg3.unread x2) (harg4.unread x3) f8 f9 7).2) = Wd x2 x3

variable (Wd : Vec F S896x5120 .i8 → Vec F S1792x320 .fp8e4m3 → Vec F S1792x5120 .bf16)
variable (m : (ℓ : Loc nD τ sig) → Buf (Elt F) ℓ) (ρ : Dev nD → PrngReg)

/-! ## The ring's slots -/

/-- Slot `n % 2` of the codes' ring lies in it, -/
theorem inbX (n : ℕ) : ∀ a, (![n % 2, 0, 0] : Fin 3 → ℕ) a + S1x512x5120.size a ≤ S2x512x5120.size a := fun a => by
  have := Nat.mod_lt n (show 0 < 2 by decide)
  match a with
  | ⟨0, _⟩ => show n % 2 + 1 ≤ 2; omega
  | ⟨1, _⟩ => show 0 + 512 ≤ 512; omega
  | ⟨2, _⟩ => show 0 + 5120 ≤ 5120; omega
/-- and of the scales'. -/
theorem inbS (n : ℕ) : ∀ a, (![n % 2, 0, 0] : Fin 3 → ℕ) a + S1x512x1.size a ≤ S2x512x1.size a := fun a => by
  have := Nat.mod_lt n (show 0 < 2 by decide)
  match a with
  | ⟨0, _⟩ => show n % 2 + 1 ≤ 2; omega
  | ⟨1, _⟩ => show 0 + 512 ≤ 512; omega
  | ⟨2, _⟩ => show 0 + 1 ≤ 1; omega

/-- Point `t` writes slot `t % 2` and reads the other. -/
theorem offs : ∀ t : Fin cfg0.N, k0_off82 (grid0.coords t) = ![t.val % 2, 0, 0] ∧ k0_off83 (grid0.coords t) = ![t.val % 2, 0, 0]
    ∧ k0_off84 (grid0.coords t) = ![t.val % 2, 0, 0] ∧ k0_off85 (grid0.coords t) = ![t.val % 2, 0, 0]
    ∧ (1 ≤ t.val → k0_off86 (grid0.coords t) = ![(t.val - 1) % 2, 0, 0] ∧ k0_off87 (grid0.coords t) = ![(t.val - 1) % 2, 0, 0]) :=
  (by decide +kernel : ∀ t : Fin grid0.N, k0_off82 (grid0.coords t) = ![t.val % 2, 0, 0] ∧ k0_off83 (grid0.coords t) = ![t.val % 2, 0, 0]
    ∧ k0_off84 (grid0.coords t) = ![t.val % 2, 0, 0] ∧ k0_off85 (grid0.coords t) = ![t.val % 2, 0, 0]
    ∧ (1 ≤ t.val → k0_off86 (grid0.coords t) = ![(t.val - 1) % 2, 0, 0] ∧ k0_off87 (grid0.coords t) = ![(t.val - 1) % 2, 0, 0]))

/-- The slot just stored reads back. -/
theorem slotX_same (d : Vec F S2x512x5120 .bf16) (w : Vec F S1x512x5120 .bf16) (n : ℕ) {off : Fin 3 → ℕ} (h : off = ![n % 2, 0, 0]) :
    VecWindow.window (VecWindow.put d off S1x512x5120.size w) ![n % 2, 0, 0] S1x512x5120.size (inbX n) = w := by
  subst h; exact VecWindow.window_put_same d _ _ _ w
/-- Likewise the scales'. -/
theorem slotS_same (d : Vec F S2x512x1 .f32) (w : Vec F S1x512x1 .f32) (n : ℕ) {off : Fin 3 → ℕ} (h : off = ![n % 2, 0, 0]) :
    VecWindow.window (VecWindow.put d off S1x512x1.size w) ![n % 2, 0, 0] S1x512x1.size (inbS n) = w := by
  subst h; exact VecWindow.window_put_same d _ _ _ w

/-- The other slot is as it was. -/
theorem slotX_other (d : Vec F S2x512x5120 .bf16) (w : Vec F S1x512x5120 .bf16) (n : ℕ) (hn : 1 ≤ n) {off off' : Fin 3 → ℕ} (h : off = ![n % 2, 0, 0])
    (h' : off' = ![(n - 1) % 2, 0, 0]) (hi) :
    VecWindow.window (VecWindow.put d off S1x512x5120.size w) off' S1x512x5120.size hi = VecWindow.window d ![(n - 1) % 2, 0, 0] S1x512x5120.size (inbX (n - 1)) := by
  subst h; subst h'
  exact VecWindow.window_put_of_disjoint d _ _ _ _ _ w ⟨0, by decide⟩ (by show (n - 1) % 2 + 1 ≤ n % 2 ∨ n % 2 + 1 ≤ (n - 1) % 2; omega)
/-- Likewise the scales'. -/
theorem slotS_other (d : Vec F S2x512x1 .f32) (w : Vec F S1x512x1 .f32) (n : ℕ) (hn : 1 ≤ n) {off off' : Fin 3 → ℕ} (h : off = ![n % 2, 0, 0])
    (h' : off' = ![(n - 1) % 2, 0, 0]) (hi) :
    VecWindow.window (VecWindow.put d off S1x512x1.size w) off' S1x512x1.size hi = VecWindow.window d ![(n - 1) % 2, 0, 0] S1x512x1.size (inbS (n - 1)) := by
  subst h; subst h'
  exact VecWindow.window_put_of_disjoint d _ _ _ _ _ w ⟨0, by decide⟩ (by show (n - 1) % 2 + 1 ≤ n % 2 ∨ n % 2 + 1 ≤ (n - 1) % 2; omega)

/-! ## What every point finds and leaves -/

/-- The first grid point. -/
def pt0 : Fin cfg0.N := ⟨0, by show 0 < grid0.N; rw [N_0]; omega⟩
/-- The point before. -/
def prevPt (t : Fin cfg0.N) : Fin cfg0.N := ⟨t.val - 1, lt_of_le_of_lt (Nat.sub_le _ _) t.isLt⟩

/-- The decoded weights. -/
def wAll (c : Dev nD) : Vec F S1792x5120 .bf16 := Wd (iblk m c 2 pt0) (iblk m c 3 pt0)

/-- The product that point `t` stores: the tile of the point before. -/
def prodAt (c : Dev nD) (t : Fin cfg0.N) : Vec F S512x1792 .bf16 :=
  prodOf (iblk m c 0 t) (wAll Wd m c) (slotX (iblk m c 1 (prevPt t))) (slotS (iblk m c 1 (prevPt t)))

/-- The scratch between the points: at first anything; after point `n` the weights are decoded, and the ring's slot `n % 2` holds the codes
    and the scales of that point's tile. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (wAll Wd m c)
      ∗ (∃ d : Vec F S2x512x5120 .bf16, ⌜VecWindow.window d ![n % 2, 0, 0] S1x512x5120.size (inbX n) = slotX (iblk m c 1 ⟨n, hn⟩)⌝ ∗ owns (c : Thread nD τ) scM0_2 fullShare d)
      ∗ (∃ d : Vec F S2x512x1 .f32, ⌜VecWindow.window d ![n % 2, 0, 0] S1x512x1.size (inbS n) = slotS (iblk m c 1 ⟨n, hn⟩)⌝ ∗ owns (c : Thread nD τ) scM0_3 fullShare d)) ∗ (∃ r, prngReg c r))

/-- Before the first step the scratch buffers hold anything. -/
theorem PhiS_zero (c : Dev nD) (n : ℕ) (h : n ≤ cfg0.N) (hz : n = 0) : PhiS Wd m c n h = Pipeline.ΦA spec0 c := by
  subst hz; rfl

/-- After a step the scratch holds the weights, and the step's slot its codes and scales. -/
theorem PhiS_succ (c : Dev nD) (n : ℕ) (hn : n < cfg0.N) :
    PhiS Wd m c (n + 1) hn = iprop(iprop((∃ d, owns (c : Thread nD τ) scM0_0 fullShare d) ∗ owns (c : Thread nD τ) scM0_1 fullShare (wAll Wd m c)
      ∗ (∃ d : Vec F S2x512x5120 .bf16, ⌜VecWindow.window d ![n % 2, 0, 0] S1x512x5120.size (inbX n) = slotX (iblk m c 1 ⟨n, hn⟩)⌝ ∗ owns (c : Thread nD τ) scM0_2 fullShare d)
      ∗ (∃ d : Vec F S2x512x1 .f32, ⌜VecWindow.window d ![n % 2, 0, 0] S1x512x1.size (inbS n) = slotS (iblk m c 1 ⟨n, hn⟩)⌝ ∗ owns (c : Thread nD τ) scM0_3 fullShare d)) ∗ (∃ r, prngReg c r)) := rfl

/-- The same, at a step that is not the first: the slot is the one of the step before. -/
theorem PhiS_pos (c : Dev nD) (t : Fin cfg0.N) (h) (hz : t.val ≠ 0) :
    PhiS Wd m c t.val h = iprop(iprop((∃ d, owns (c : Thread nD τ) scM0_0 fullShare d) ∗ owns (c : Thread nD τ) scM0_1 fullShare (wAll Wd m c)
      ∗ (∃ d : Vec F S2x512x5120 .bf16, ⌜VecWindow.window d ![(t.val - 1) % 2, 0, 0] S1x512x5120.size (inbX (t.val - 1)) = slotX (iblk m c 1 (prevPt t))⌝ ∗ owns (c : Thread nD τ) scM0_2 fullShare d)
      ∗ (∃ d : Vec F S2x512x1 .f32, ⌜VecWindow.window d ![(t.val - 1) % 2, 0, 0] S1x512x1.size (inbS (t.val - 1)) = slotS (iblk m c 1 (prevPt t))⌝ ∗ owns (c : Thread nD τ) scM0_3 fullShare d)) ∗ (∃ r, prngReg c r)) := by
  obtain ⟨n, hn⟩ := t
  obtain ⟨k, rfl⟩ := Nat.exists_eq_succ_of_ne_zero hz
  rfl

/-- The proof data of the pipeline: every window's contents after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodAt Wd m c t
    | ⟨5, _⟩ => codesOf (iblk m c 1 t)
    | ⟨6, _⟩ => scaleOf (iblk m c 1 t)
  Φ t := PhiS Wd m c t.val (Nat.le_of_lt_succ t.isLt)
  q _ := fullShare
  owed _ := 0

/-- The array that a window starts from. -/
theorem A_eq (c : Dev nD) (w : Fin cfg0.W) : (dats Wd m 0 c).A w = V m c (Pipeline.arrRef spec0 w) := by
  dsimp only [dats]

/-- The scratch invariant at the start of a step. -/
theorem PhiS_castSucc (c : Dev nD) (t : Fin cfg0.N) :
    (dats Wd m 0 c).Φ t.castSucc = PhiS Wd m c t.val (Nat.le_of_lt t.isLt) := by
  dsimp only [dats]; exact Pipeline.Dat.Φ_castSucc (PhiS Wd m c) t

/-- The global scale after a step: unchanged. -/
theorem after0_0 (c : Dev nD) (t : Fin cfg0.N) : (dats Wd m 0 c).after 0 t = iblk m c 0 t := by dsimp only [dats]
/-- The activation block after a step: unchanged. -/
theorem after0_1 (c : Dev nD) (t : Fin cfg0.N) : (dats Wd m 0 c).after 1 t = iblk m c 1 t := by dsimp only [dats]
/-- The packed weights after a step: unchanged. -/
theorem after0_2 (c : Dev nD) (t : Fin cfg0.N) : (dats Wd m 0 c).after 2 t = iblk m c 2 t := by dsimp only [dats]
/-- The block scales after a step: unchanged. -/
theorem after0_3 (c : Dev nD) (t : Fin cfg0.N) : (dats Wd m 0 c).after 3 t = iblk m c 3 t := by dsimp only [dats]
/-- The product block after a step. -/
theorem after0_4 (c : Dev nD) (t : Fin cfg0.N) : (dats Wd m 0 c).after 4 t = prodAt Wd m c t := by dsimp only [dats]
/-- The code block after a step: the codes of the step's activations. -/
theorem after0_5 (c : Dev nD) (t : Fin cfg0.N) : (dats Wd m 0 c).after 5 t = codesOf (iblk m c 1 t) := by dsimp only [dats]
/-- The scale block after a step: the scales of the step's activations. -/
theorem after0_6 (c : Dev nD) (t : Fin cfg0.N) : (dats Wd m 0 c).after 6 t = scaleOf (iblk m c 1 t) := by dsimp only [dats]
/-- The global scale before a step. -/
theorem before0_0 (c : Dev nD) (t : Fin cfg0.N) (d) : (dats Wd m 0 c).before 0 t d = iblk m c 0 t :=
  before0_0_of m (dats Wd m 0 c) (A_eq Wd m c 0) (after0_0 Wd m c) t d
/-- The activation block before a step. -/
theorem before0_1 (c : Dev nD) (t : Fin cfg0.N) (d) : (dats Wd m 0 c).before 1 t d = iblk m c 1 t :=
  before0_1_of m (dats Wd m 0 c) (A_eq Wd m c 1) (after0_1 Wd m c) t d
/-- The packed weights before a step. -/
theorem before0_2 (c : Dev nD) (t : Fin cfg0.N) (d) : (dats Wd m 0 c).before 2 t d = iblk m c 2 t :=
  before0_2_of m (dats Wd m 0 c) (A_eq Wd m c 2) (after0_2 Wd m c) t d
/-- The block scales before a step. -/
theorem before0_3 (c : Dev nD) (t : Fin cfg0.N) (d) : (dats Wd m 0 c).before 3 t d = iblk m c 3 t :=
  before0_3_of m (dats Wd m 0 c) (A_eq Wd m c 3) (after0_3 Wd m c) t d

/-- What the body is entered with at point `t`, -/
def bodyPre (c : Dev nD) (t : Fin cfg0.N) : sProp 𝕄 :=
  iprop((dats Wd m 0 c).Φ t.castSucc ∗ (dats Wd m 0 c).owesAt () t.castSucc
    ∗ (∃ d, owns (c : Thread nD τ) (ms0_0 t) fullShare ((dats Wd m 0 c).before 0 t d))
    ∗ (∃ d, owns (c : Thread nD τ) (ms0_1 t) fullShare ((dats Wd m 0 c).before 1 t d))
    ∗ (∃ d, owns (c : Thread nD τ) (ms0_2 t) fullShare ((dats Wd m 0 c).before 2 t d))
    ∗ (∃ d, owns (c : Thread nD τ) (ms0_3 t) fullShare ((dats Wd m 0 c).before 3 t d))
    ∗ (∃ d, owns (c : Thread nD τ) (ms0_4 t) fullShare ((dats Wd m 0 c).before 4 t d))
    ∗ (∃ d, owns (c : Thread nD τ) (ms0_5 t) fullShare ((dats Wd m 0 c).before 5 t d))
    ∗ (∃ d, owns (c : Thread nD τ) (ms0_6 t) fullShare ((dats Wd m 0 c).before 6 t d)))

/-- and what it returns. -/
def bodyPost (c : Dev nD) (t : Fin cfg0.N) : sProp 𝕄 :=
  iprop((dats Wd m 0 c).Φ t.succ ∗ (dats Wd m 0 c).owesAt () t.succ
    ∗ (dats Wd m 0 c).leavesExact 0 t
    ∗ (dats Wd m 0 c).leavesExact 1 t
    ∗ (dats Wd m 0 c).leavesExact 2 t
    ∗ (dats Wd m 0 c).leavesExact 3 t
    ∗ (dats Wd m 0 c).leavesExact 4 t
    ∗ (dats Wd m 0 c).leavesExact 5 t
    ∗ (dats Wd m 0 c).leavesExact 6 t)

/-- The first step writes no product block back. -/
theorem flush4_0 : ∀ t : Fin cfg0.N, ¬cond0_1 (grid0.coords t) → (cfg0.win 4).flush t = false := by decide +kernel

set_option maxHeartbeats 6400000 in
/-- The body at any point is one of its two runs. -/
theorem sound_body (hW : Decodes Wd) (c : Dev nD) (t : Fin cfg0.N) :
    bodyPre Wd m c t ⊢ wp frame (wpE (defs₀ (F := F)) Variants.none c none) Set.univ (bodyAt0 t) (fun _ => bodyPost Wd m c t) := by
  unfold bodyPre bodyPost bodyAt0
  simp only [before0_0, before0_1, before0_2, before0_3]
  rw [show (dats Wd m 0 c).owesAt () t.succ = (dats Wd m 0 c).owesAt () t.castSucc from rfl]
  rw [show (dats Wd m 0 c).Φ t.succ = PhiS Wd m c (t.val + 1) t.isLt from rfl, PhiS_succ]
  have hN : t.val < 25 := lt_of_lt_of_eq t.isLt (show cfg0.N = 25 from N_0)
  obtain ⟨o82, o83, o84, o85, o867⟩ := offs t
  rw [show (dats Wd m 0 c).leavesExact 0 t = owns (c : Thread nD τ) (ms0_0 t) fullShare ((dats Wd m 0 c).after 0 t) from by
    unfold Dat.leavesExact; rw [liveAt0_0 t], after0_0]
  rw [show (dats Wd m 0 c).leavesExact 1 t = owns (c : Thread nD τ) (ms0_1 t) fullShare ((dats Wd m 0 c).after 1 t) from by
    unfold Dat.leavesExact; rw [liveAt0_1 t], after0_1]
  rw [show (dats Wd m 0 c).leavesExact 2 t = owns (c : Thread nD τ) (ms0_2 t) fullShare ((dats Wd m 0 c).after 2 t) from by
    unfold Dat.leavesExact; rw [liveAt0_2 t], after0_2]
  rw [show (dats Wd m 0 c).leavesExact 3 t = owns (c : Thread nD τ) (ms0_3 t) fullShare ((dats Wd m 0 c).after 3 t) from by
    unfold Dat.leavesExact; rw [liveAt0_3 t], after0_3]
  rw [show (dats Wd m 0 c).leavesExact 5 t = owns (c : Thread nD τ) (ms0_5 t) fullShare ((dats Wd m 0 c).after 5 t) from by
    unfold Dat.leavesExact; rw [liveAt0_5 t], after0_5]
  rw [show (dats Wd m 0 c).leavesExact 6 t = owns (c : Thread nD τ) (ms0_6 t) fullShare ((dats Wd m 0 c).after 6 t) from by
    unfold Dat.leavesExact; rw [liveAt0_6 t], after0_6]
  by_cases h1 : 1 ≤ t.val
  · have hc0 : ¬cond0_0 (grid0.coords t) := fun h => by have := (hcond0_0 t).mp h; omega
    have hc1 : cond0_1 (grid0.coords t) := (hcond0_1 t).mpr h1
    obtain ⟨o86, o87⟩ := o867 h1
    rw [show (dats Wd m 0 c).leavesExact 4 t = owns (c : Thread nD τ) (ms0_4 t) fullShare ((dats Wd m 0 c).after 4 t) from by
      unfold Dat.leavesExact; rw [liveAt0_4_B t hc1], after0_4]
    rw [PhiS_castSucc Wd m c t, PhiS_pos Wd m c t _ (by omega)]
    unfold prodAt
    iintro ⟨⟨⟨HS0, HS1, ⟨%e10, %he10, HS2⟩, ⟨%e11, %he11, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ _ _ _ _ hc0 hc1 (iblk m c 0 t) (iblk m c 1 t) (iblk m c 2 t) (iblk m c 3 t) (wAll Wd m c) e10 e11
      (slotX (iblk m c 1 (prevPt t))) (slotS (iblk m c 1 (prevPt t)))
      ((slotX_other e10 _ t.val h1 o85 o86 _).trans he10) ((slotS_other e11 _ t.val h1 o84 o87 _).trans he11) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]
        · iexists _; isplitr; swap; · iexact HS2
          ipureintro; exact slotX_same e10 _ t.val o85
        iexists _; isplitr; swap; · iexact HS3
        ipureintro; exact slotS_same e11 _ t.val o84
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond0_1 (grid0.coords t) := fun h => h1 ((hcond0_1 t).mp h)
    have hc0 : cond0_0 (grid0.coords t) := (hcond0_0 t).mpr (by omega)
    have hz : t.val = 0 := by omega
    have hw : wAll Wd m c = Wd (iblk m c 2 t) (iblk m c 3 t) := by
      rw [show t = pt0 from Fin.ext hz]; rfl
    rw [Dat.leavesExact_idle _ 4 t (idleAt0_4_A t hc1) (flush4_0 t hc1)]
    rw [PhiS_castSucc Wd m c t, PhiS_zero Wd m c _ _ hz, PhiA0_eq]
    iintro ⟨⟨⟨HS0, HS1, ⟨%e10, HS2⟩, ⟨%e11, HS3⟩⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ _ _ _ _ hc0 hc1 (iblk m c 0 t) (iblk m c 1 t) (iblk m c 2 t) (iblk m c 3 t)
      _ e10 e11 (wAll Wd m c) (fun f8 f9 => (hW c (grid0.coords t) _ _ _ _ _ _ _ _ _ _ _ _ _ _ _ _ _ _ _ _ _ _ hc0 _ _ f8 f9).trans hw.symm) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]
        · iexists _; isplitr; swap; · iexact HS2
          ipureintro; exact slotX_same e10 _ t.val o83
        iexists _; isplitr; swap; · iexact HS3
        ipureintro; exact slotS_same e11 _ t.val o82
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    iexact H6

/-- The body table's row is the body. -/
theorem defs₀_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (hW : Decodes Wd) (c : Dev nD) : BodyObligation (dats (F := F) Wd m 0 c) (defs₀ (F := F)) Variants.none () Set.univ := fun t => by
  rw [bigSep_W0, bigSep_W0, defs₀_row]
  exact triple_restated (sound_body Wd m hW c t) rfl .rfl fun _ => .rfl

/-- What the region is entered with is the invariant before the first point, -/
theorem hin (c : Dev nD) : Pipeline.ΦA spec0 c ⊢ (dats Wd m 0 c).Φ 0 := by
  rw [show (dats Wd m 0 c).Φ 0 = PhiS Wd m c 0 (Nat.zero_le _) from rfl, PhiS_zero Wd m c 0 _ rfl]
  try exact Idealize.SL.BI.Entails.refl _

/-- and the invariant after the last gives it back. -/
theorem hout (c : Dev nD) : (dats Wd m 0 c).Φ (Fin.last cfg0.N) ⊢ Pipeline.ΦA spec0 c := by
  have hN : cfg0.N = 24 + 1 := N_0
  have h : (dats Wd m 0 c).Φ (Fin.last cfg0.N) = PhiS Wd m c (24 + 1) (le_of_eq hN.symm) := by
    show PhiS Wd m c cfg0.N _ = _
    congr 1
  rw [h, PhiS_succ Wd m c 24 (by omega), PhiA0_eq]
  iintro ⟨⟨HS0, HS1, ⟨%d2, -, HS2⟩, ⟨%d3, -, HS3⟩⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

set_option backward.isDefEq.respectTransparency.types false in
/-- Every run of the program ends, with every array of the pipeline at what the proof data gives, and no semaphore count left. -/
theorem run_main_quiescent (hW : Decodes Wd) : θ_run defs (onTc (τ := τ) (main (F := F))) (s₀ m ρ) (fun r => (Pipeline.FramePost cfgs (dats Wd m) 0 (V m)) r ∧ r.2.sem = fun _ => 0) :=
  Pipeline.θ_run_frame_track (Q' := _) cfgs (dats Wd m) (0 : Fin 1) launch0 defs₀ Variants.none m ρ main
    (hbody := fun c => (body_obligation Wd m hW c).loose) (hshare := fun c => (dats Wd m 0 c).share_full fun _ => rfl)
    (howed := fun _ _ => rfl) (V := V m) (hmain := hmain m Variants.none) (hA := A_eq Wd m) (hin := hin Wd m) (hout := hout Wd m)

/-- The whole program runs from any memory, and its arrays end as the steps leave them. -/
theorem run_main (hW : Decodes Wd) : θ_run defs (onTc (τ := τ) (main (F := F))) (s₀ m ρ) (Pipeline.FramePost cfgs (dats Wd m) 0 (V m)) :=
  (θ_run defs _ _).mono (fun _ h => h.1) (run_main_quiescent Wd m ρ hW)

/-- The argument arrays end unchanged. -/
theorem unchanged (hW : Decodes Wd) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats Wd m) (A_eq Wd m) (run_main Wd m ρ hW)

/-- The frame claim of the program: it ends, the arguments unchanged, no semaphore count left. -/
theorem frame (hW : Decodes Wd) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged Wd m ρ hW) ((θ_run defs _ _).mono (fun _ h => h.2) (run_main_quiescent Wd m ρ hW))

end Cert.KernelIdeal.Run

end
-- ==== Proof.KDecode.lean ====
/- What the decoding loop stores, as values: each stored element is the four-bit code's value times its block's scale. -/
module

public import proofs.«01_k».proof.Proof.KTrip
public import proofs.«01_k».proof.Proof.KFrame
public import Idealize.ShloMosaic.Lib.Pointwise
public import Idealize.ShloMosaic.Lib.BitcastPair
public import Idealize.ShloMosaic.Lib.Pipeline.ReadBack

@[expose] public section

set_option maxRecDepth 16384

noncomputable section

namespace Cert.KernelIdeal.Run

open Idealize.ShloMosaic Idealize.ShloMosaic.TcCoe
open Cert.KernelIdeal Cert.KernelIdeal.Gen
open Idealize.SL.Sem

/-- The code of the low (`p = 0`) or of the high half of a packed byte. -/
def nib (b : BitVec 8) (p : ℕ) : BitVec 32 := if p = 0 then b.setWidth 32 &&& 15#32 else b.setWidth 32 >>> 4

/-- The value of a four-bit code: one sign bit over the magnitudes 0, 1/2, 1, 3/2, 2, 3, 4, 6. -/
def e2m1 (v : BitVec 32) : EReal :=
  let m := v &&& 7#32
  let a : ℝ := if m = 0#32 then 0 else if m = 1#32 then 1 / 2 else if m = 2#32 then 1 else if m = 3#32 then 3 / 2 else if m = 4#32 then 2
    else if m = 5#32 then 3 else if m = 6#32 then 4 else 6
  ((if 8#32 ≤ v then -a else a : ℝ) : EReal)

/-- The bf16 pattern of a four-bit code. -/
def pat (v : BitVec 32) : BitVec 32 :=
  IntOp.ori (Scalar.select (IntOp.cmpi .slt (IntOp.andi v 7#32) 2#32) (IntOp.muli (IntOp.andi v 7#32) 16128#32) (IntOp.addi 16128#32 (IntOp.shli .vector (IntOp.andi v 7#32) 6#32)))
    (IntOp.shli .vector (IntOp.andi v 8#32) 12#32)

/-- The word of the two patterns of a packed byte. -/
def word (b : BitVec 8) : BitVec 32 :=
  IntOp.ori (pat (IntOp.andi (b.setWidth 32) 15#32)) (IntOp.shli .vector (pat (IntOp.shrsi .vector (b.setWidth 32) 4#32)) 16#32)

/-- The sixteen patterns. -/
def pats : Fin 16 → BitVec 16 :=
  ![0x0000#16, 0x3F00#16, 0x3F80#16, 0x3FC0#16, 0x4000#16, 0x4040#16, 0x4080#16, 0x40C0#16,
    0x8000#16, 0xBF00#16, 0xBF80#16, 0xBFC0#16, 0xC000#16, 0xC040#16, 0xC080#16, 0xC0C0#16]

/-- A code of a byte is below sixteen. -/
theorem nib_lt : ∀ (b : BitVec 8) (p : Fin 2), (nib b p.val).toNat < 16 := by decide +kernel

/-- Each half of the word built from a byte is the bf16 pattern of that byte's code. -/
theorem word_half : ∀ (b : BitVec 8) (p : Fin 2), (word b).extractLsb' (16 * p.val) 16 = pats ⟨(nib b p.val).toNat, nib_lt b p⟩ := by decide +kernel

/-- Each pattern denotes its code's value. -/
theorem pats_val (n : Fin 16) : Ideal.ofBits .bf16 (pats n) = e2m1 (BitVec.ofNat 32 n.val) := by
  fin_cases n <;> simp [pats, e2m1, Ideal.ofBits, Ideal.ieee, -EReal.coe_mul, -EReal.coe_neg] <;> norm_num

/-- Read as a bf16 number, each half of that word is the value of the code. -/
theorem half_val (b : BitVec 8) (p : Fin 2) : Ideal.ofBits .bf16 ((word b).extractLsb' (16 * p.val) 16) = e2m1 (nib b p.val) := by
  rw [word_half, pats_val]
  congr 1
  simp

/-- Lane `l` lies in block `l / 16`. -/
theorem lane_block (r l : Fin 128) : k0_pay328 (ix2 r l) = BitVec.ofNat 32 (l.val / 16) := by
  pointwise [k0_pay328]
  revert l
  decide +kernel

/-- The lane index into the scale words, after the wrap of negative indices, is the sum of its two parts. -/
theorem place : ∀ (n : Fin 121) (b : Fin 8), (Scalar.select (IntOp.cmpi .slt (IntOp.addi (BitVec.ofNat 32 b.val) (BitVec.ofNat 32 n.val)) 0#32)
    (IntOp.addi (IntOp.addi (BitVec.ofNat 32 b.val) (BitVec.ofNat 32 n.val)) 128#32) (IntOp.addi (BitVec.ofNat 32 b.val) (BitVec.ofNat 32 n.val))).toNat % 128 = n.val + b.val := by
  decide +kernel

/-- Row `r` of the bf16 rows lies in row `r / 2` of the words. -/
theorem srcIdx_at (r : Fin 256) (l : Fin 128) (h) :
    (bitcasts_S128x128_w32_S256x128_w16).srcIdx (ix2 r l) (r.val / 2) h = ix2 (⟨r.val / 2, by omega⟩ : Fin 128) l := by
  funext a
  match a with
  | ⟨0, _⟩ => rfl
  | ⟨1, _⟩ => rfl

/-- The word that the body builds from a byte is `word` of the byte. -/
theorem word_at (wp : IVec S128x128 8) (j l : Fin 128) :
    IntOp.ori (k0_pay11 (F := Ideal) wp (ix2 j l)) (IntOp.shli .vector (k0_pay12 (F := Ideal) wp (ix2 j l)) 16#32) = word (wp (ix2 j l)) := by
  pointwise [k0_pay11, k0_pay12, k0_pay10, word, pat]

/-- One chunk's element: the code's value times the scale at its place. -/
theorem CH_at (n : ℕ) (hn : n < 121) (s8 : FVec Ideal S128x2x128 .bf16) (wp : IVec S128x128 8) (r : Fin 256) (l : Fin 128) :
    CH (F := Ideal) (BitVec.ofNat 32 n) s8 wp (ix2 r l)
      = e2m1 (nib (wp (ix2 (⟨r.val / 2, by omega⟩ : Fin 128) l)) (r.val % 2)) * s8 (ix3 (⟨r.val / 2, by omega⟩ : Fin 128) (⟨r.val % 2, by omega⟩ : Fin 2) (⟨n + l.val / 16, by omega⟩ : Fin 128)) := by
  pointwise [CH, k0_pay13, k0_pay9, lane_block, bitcast_32_16]
  have hp := place ⟨n, hn⟩ ⟨l.val / 16, by omega⟩
  dsimp only at hp
  refine congrArg₂ (fun a b : EReal => a * b) ?_ ?_
  · refine (congrArg (fun j => Ideal.ofBits .bf16 (BitVec.extractLsb' (16 * (r.val % 2)) 16
      (IntOp.ori (k0_pay11 (F := Ideal) wp j) (IntOp.shli .vector (k0_pay12 (F := Ideal) wp j) 16#32)))) (srcIdx_at r l _)).trans ?_
    rw [word_at]
    exact half_val _ ⟨r.val % 2, by omega⟩
  simp only [hp]
  rcases Nat.mod_two_eq_zero_or_one r.val with h | h
  · rw [if_pos h]
    exact congrArg s8 (congrArg (fun p => ix3 (⟨r.val / 2, by omega⟩ : Fin 128) p (⟨n + l.val / 16, by omega⟩ : Fin 128)) (Fin.ext h.symm : (0 : Fin 2) = ⟨r.val % 2, by omega⟩))
  · rw [if_neg (by omega)]
    exact congrArg s8 (congrArg (fun p => ix3 (⟨r.val / 2, by omega⟩ : Fin 128) p (⟨n + l.val / 16, by omega⟩ : Fin 128)) (Fin.ext h.symm : (1 : Fin 2) = ⟨r.val % 2, by omega⟩))

/-- The decoded weights: the code's value times its block's scale. -/
def Wdec (x2 : Vec Ideal S896x5120 .i8) (x3 : Vec Ideal S1792x320 .fp8e4m3) : Vec Ideal S1792x5120 .bf16 := fun y =>
  e2m1 (nib (x2 (ix2 (⟨(y 0).val / 2, by have : (y 0).val < 1792 := (y 0).isLt; omega⟩ : Fin 896) (⟨(y 1).val, (y 1).isLt⟩ : Fin 5120))) ((y 0).val % 2))
    * x3 (ix2 (⟨(y 0).val, (y 0).isLt⟩ : Fin 1792) (⟨(y 1).val / 16, by have : (y 1).val < 5120 := (y 1).isLt; omega⟩ : Fin 320))

/-- A chunk's store is the decoded weights' block there. -/
theorem chunk_ok (x2 : Vec Ideal S896x5120 .i8) (x3 : Vec Ideal S1792x320 .fp8e4m3) (k c n base : ℕ) (hk : k < 7) (hc : c < 40) (hn : n < 121) (hb : base + n = 8 * c)
    {off : Fin 2 → ℕ} (hoff : off = ![256 * k, 128 * c]) (inb : ∀ a, off a + S256x128.size a ≤ S1792x5120.size a)
    (s8 : FVec Ideal S128x2x128 .bf16) (wp : IVec S128x128 8)
    (hs : ∀ (j : Fin 128) (p : Fin 2) (b : Fin 128) (h : base + b.val < 320), s8 (ix3 j p b) = x3 (ix2 (⟨256 * k + (2 * j.val + p.val), by omega⟩ : Fin 1792) (⟨base + b.val, h⟩ : Fin 320)))
    (hw : ∀ (j l : Fin 128), wp (ix2 j l) = x2 (ix2 (⟨128 * k + j.val, by omega⟩ : Fin 896) (⟨128 * c + l.val, by omega⟩ : Fin 5120)))
    (x : (Rect.unit (s := S1792x5120) off S256x128.size inb).shape.Idx) :
    CH (F := Ideal) (BitVec.ofNat 32 n) s8 wp x = Wdec x2 x3 ((Rect.unit (s := S1792x5120) off S256x128.size inb).emb x) := by
  subst hoff
  obtain ⟨r, l, rfl⟩ : ∃ (r : Fin 256) (l : Fin 128), x = ix2 r l := ⟨x 0, x 1, eq_ix2 x⟩
  refine (CH_at n hn s8 wp r l).trans ?_
  rw [hs _ _ _ (by show base + (n + l.val / 16) < 320; omega), hw]
  have e0 : ((Rect.unit (s := S1792x5120) ![256 * k, 128 * c] S256x128.size inb).emb (ix2 r l) 0).val = 256 * k + r.val := by
    show 256 * k + 1 * r.val = _; omega
  have e1 : ((Rect.unit (s := S1792x5120) ![256 * k, 128 * c] S256x128.size inb).emb (ix2 r l) 1).val = 128 * c + l.val := by
    show 128 * c + 1 * l.val = _; omega
  unfold Wdec
  refine congrArg₂ (fun a b : EReal => a * b) (congrArg e2m1 (congrArg₂ nib (congrArg x2 ?_) ?_)) (congrArg x3 ?_)
  · exact (ix2_inj ..).2 ⟨Fin.ext (by dsimp only; rw [e0]; omega), Fin.ext (by dsimp only; rw [e1])⟩
  · rw [e0]; omega
  · exact (ix2_inj ..).2 ⟨Fin.ext (by dsimp only; rw [e0]; omega), Fin.ext (by dsimp only; rw [e1]; omega)⟩

/-- The scales' scratch as one trip fills it. -/
theorem pay5_at (v : FVec Ideal S256x320 .fp8e4m3) (j : Fin 128) (p : Fin 2) (b : Fin 320) :
    k0_pay5 (F := Ideal) v (ix3 j p b) = v (ix2 (⟨2 * j.val + p.val, by omega⟩ : Fin 256) b) := by
  pointwise [k0_pay5]
  fin_cases p <;> rfl

/-- The loop's scales scratch, read back inside what the trip filled: the scales' rows of that trip. -/
theorem scales_at (i : grid0.Coords) (arg4 : Memref sig .tc .vmem S1792x320 .fp8e4m3) (harg4 : arg4.IsWhole) (arg8 : Memref sig .tc .vmem S128x2x384 .bf16) (k0_h1 : k0_cond1 i = 1#1)
    (x3 : Vec Ideal S1792x320 .fp8e4m3) (k : Fin k0_t1_loop.trips) (hk : k.val < 7) (f : BufTy.Contents (Elt Ideal) arg8.view.ty) (base : ℕ) (inb : ∀ a, (![0, 0, base] : Fin 3 → ℕ) a + S128x2x128.size a ≤ S128x2x384.size a)
    (j : Fin 128) (p : Fin 2) (b : Fin 128) (h : base + b.val < 320) :
    View.readAt (Elt Ideal) arg8.view (Rect.unit (s := S128x2x384) ![0, 0, base] S128x2x128.size inb).toLoadRect
        (arg8.view.writes (Elt Ideal) f (trip_k0_t1.sl.HW_arg8_1 i arg4 k0_h1 (harg4.unread x3) k)) (ix3 j p b)
      = x3 (ix2 (⟨256 * k.val + (2 * j.val + p.val), by omega⟩ : Fin 1792) (⟨base + b.val, h⟩ : Fin 320)) := by
  have ho : k0_off1 k = ![256 * k.val, 0] := (by decide +kernel : ∀ k : Fin k0_t1_loop.trips, k0_off1 k = ![256 * k.val, 0]) k
  rw [View.readAt_apply]
  delta trip_k0_t1.sl.HW_arg8_1
  refine (View.read_writes_cons_hit_of_coords _ _ _ _ _ (ix3 j p (⟨base + b.val, h⟩ : Fin 320)) _ ?_).trans ?_
  · intro a
    match a with
    | ⟨0, _⟩ => rfl
    | ⟨1, _⟩ => rfl
    | ⟨2, _⟩ => show base + 1 * b.val = 0 + 1 * (base + b.val); omega
  refine (pay5_at _ j p ⟨base + b.val, h⟩).trans ?_
  rw [View.readAt_apply, harg4.read_unread]
  refine congrArg x3 ?_
  funext a
  match a with
  | ⟨0, _⟩ => exact Fin.ext (by show (k0_off1 k) 0 + 1 * (2 * j.val + p.val) = _; rw [ho]; show 256 * k.val + 1 * (2 * j.val + p.val) = 256 * k.val + (2 * j.val + p.val); omega)
  | ⟨1, _⟩ => exact Fin.ext (by show (k0_off1 k) 1 + 1 * (base + b.val) = _; rw [ho]; show 0 + 1 * (base + b.val) = base + b.val; omega)

/-- The packed words of a chunk. -/
theorem words_at (arg3 : Memref sig .tc .vmem S896x5120 .i8) (harg3 : arg3.IsWhole) (x2 : Vec Ideal S896x5120 .i8) (k c : ℕ) (hk : k < 7) (hc : c < 40)
    {off : Fin 2 → ℕ} (hoff : off = ![128 * k, 128 * c]) (inb : ∀ a, off a + S128x128.size a ≤ S896x5120.size a) (j l : Fin 128) :
    (View.readAt (Elt Ideal) arg3.view (Rect.unit (s := S896x5120) off S128x128.size inb).toLoadRect (harg3.unread x2) : IVec S128x128 8) (ix2 j l)
      = x2 (ix2 (⟨128 * k + j.val, by omega⟩ : Fin 896) (⟨128 * c + l.val, by omega⟩ : Fin 5120)) := by
  subst hoff
  rw [View.readAt_apply, harg3.read_unread]
  refine congrArg x2 ?_
  funext a
  match a with
  | ⟨0, _⟩ => exact Fin.ext (by show 128 * k + 1 * j.val = 128 * k + j.val; omega)
  | ⟨1, _⟩ => exact Fin.ext (by show 128 * c + 1 * l.val = 128 * c + l.val; omega)

set_option maxHeartbeats 8000000 in
/-- Every store of a trip is a block of the decoded weights. -/
theorem trip_ok (𝒱 : Variants) (c : Dev nD) (bd : Option 𝒱.V) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (k0_h1 : k0_cond1 i = 1#1) (x2 : Vec Ideal S896x5120 .i8) (x3 : Vec Ideal S1792x320 .fp8e4m3) (k : Fin k0_t1_loop.trips)
    (f8 : BufTy.Contents (Elt Ideal) arg8.view.ty) (f9 : BufTy.Contents (Elt Ideal) arg9.view.ty) :
    View.PiecesOf (Wdec x2 x3) ((trip_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) k).2.1 f8 f9) := by
  have hk : k.val < 7 := Nat.lt_of_lt_of_le k.isLt k0_t1_abs.2.1
  rw [trip_pieces]
  exact ⟨chunk_ok x2 x3 k.val 39 56 256 hk (by omega) (by omega) (by omega) ((by decide +kernel : ∀ k : Fin k0_t1_loop.trips, k0_off81 k = ![256 * k.val, 128 * 39]) k) (k0_off81_inb i k k0_h1) _ _ (fun j p b h => scales_at i arg4 harg4 arg8 k0_h1 x3 k hk f8 256 inb_S128x2x384_S128x2x128_0_0_256 j p b h) (fun j l => words_at arg3 harg3 x2 k.val 39 hk (by omega) ((by decide +kernel : ∀ k : Fin k0_t1_loop.trips, k0_off80 k = ![128 * k.val, 128 * 39]) k) (k0_off80_inb i k k0_h1) j l),
    chunk_ok x2 x3 k.val 38 48 256 hk (by omega) (by omega) (by omega) ((by decide +kernel : ∀ k : Fin k0_t1_loop.trips, k0_off79 k = ![256 * k.val, 128 * 38]) k) (k0_off79_inb i k k0_h1) _ _ (fun j p b h => scales_at i arg4 harg4 arg8 k0_h1 x3 k hk f8 256 inb_S128x2x384_S128x2x128_0_0_256 j p b h) (fun j l => words_at arg3 harg3 x2 k.val 38 hk (by omega) ((by decide +kernel : ∀ k : Fin k0_t1_loop.trips, k0_off78 k = ![128 * k.val, 128 * 38]) k) (k0_off78_inb i k k0_h1) j l),
    chunk_ok x2 x3 k.val 37 40 256 hk (by omega) (by omega) (by omega) ((by decide +kernel : ∀ k : Fin k0_t1_loop.trips, k0_off77 k = ![256 * k.val, 128 * 37]) k) (k0_off77_inb i k k0_h1) _ _ (fun j p b h => scales_at i arg4 harg4 arg8 k0_h1 x3 k hk f8 256 inb_S128x2x384_S128x2x128_0_0_256 j p b h) (fun j l => words_at arg3 harg3 x2 k.val 37 hk (by omega) ((by decide +kernel : ∀ k : Fin k0_t1_loop.trips, k0_off76 k = ![128 * k.val, 128 * 37]) k) (k0_off76_inb i k k0_h1) j l),
    chunk_ok x2 x3 k.val 36 32 256 hk (by omega) (by omega) (by omega) ((by decide +kernel : ∀ k : Fin k0_t1_loop.trips, k0_off75 k = ![256 * k.val, 128 * 36]) k) (k0_off75_inb i k k0_h1) _ _ (fun j p b h => scales_at i arg4 harg4 arg8 k0_h1 x3 k hk f8 256 inb_S128x2x384_S128x2x128_0_0_256 j p b h) (fun j l => words_at arg3 harg3 x2 k.val 36 hk (by omega) ((by decide +kernel : ∀ k : Fin k0_t1_loop.trips, k0_off74 k = ![128 * k.val, 128 * 36]) k) (k0_off74_inb i k k0_h1) j l),
    chunk_ok x2 x3 k.val 35 24 256 hk (by omega) (by omega) (by omega) ((by decide +kernel : ∀ k : Fin k0_t1_loop.trips, k0_off73 k = ![256 * k.val, 128 * 35]) k) (k0_off73_inb i k k0_h1) _ _ (fun j p b h => scales_at i arg4 harg4 arg8 k0_h1 x3 k hk f8 256 inb_S128x2x384_S128x2x128_0_0_256 j p b h) (fun j l => words_at arg3 harg3 x2 k.val 35 hk (by omega) ((by decide +kernel : ∀ k : Fin k0_t1_loop.trips, k0_off72 k = ![128 * k.val, 128 * 35]) k) (k0_off72_inb i k k0_h1) j l),
    chunk_ok x2 x3 k.val 34 16 256 hk (by omega) (by omega) (by omega) ((by decide +kernel : ∀ k : Fin k0_t1_loop.trips, k0_off71 k = ![256 * k.val, 128 * 34]) k) (k0_off71_inb i k k0_h1) _ _ (fun j p b h => scales_at i arg4 harg4 arg8 k0_h1 x3 k hk f8 256 inb_S128x2x384_S128x2x128_0_0_256 j p b h) (fun j l => words_at arg3 harg3 x2 k.val 34 hk (by omega) ((by decide +kernel : ∀ k : Fin k0_t1_loop.trips, k0_off70 k = ![128 * k.val, 128 * 34]) k) (k0_off70_inb i k k0_h1) j l),
    chunk_ok x2 x3 k.val 33 8 256 hk (by omega) (by omega) (by omega) ((by decide +kernel : ∀ k : Fin k0_t1_loop.trips, k0_off69 k = ![256 * k.val, 128 * 33]) k) (k0_off69_inb i k k0_h1) _ _ (fun j p b h => scales_at i arg4 harg4 arg8 k0_h1 x3 k hk f8 256 inb_S128x2x384_S128x2x128_0_0_256 j p b h) (fun j l => words_at arg3 harg3 x2 k.val 33 hk (by omega) ((by decide +kernel : ∀ k : Fin k0_t1_loop.trips, k0_off68 k = ![128 * k.val, 128 * 33]) k) (k0_off68_inb i k k0_h1) j l),
    chunk_ok x2 x3 k.val 32 0 256 hk (by omega) (by omega) (by omega) ((by decide +kernel : ∀ k : Fin k0_t1_loop.trips, k0_off67 k = ![256 * k.val, 128 * 32]) k) (k0_off67_inb i k k0_h1) _ _ (fun j p b h => scales_at i arg4 harg4 arg8 k0_h1 x3 k hk f8 256 inb_S128x2x384_S128x2x128_0_0_256 j p b h) (fun j l => words_at arg3 harg3 x2 k.val 32 hk (by omega) ((by decide +kernel : ∀ k : Fin k0_t1_loop.trips, k0_off66 k = ![128 * k.val, 128 * 32]) k) (k0_off66_inb i k k0_h1) j l),
    chunk_ok x2 x3 k.val 31 120 128 hk (by omega) (by omega) (by omega) ((by decide +kernel : ∀ k : Fin k0_t1_loop.trips, k0_off65 k = ![256 * k.val, 128 * 31]) k) (k0_off65_inb i k k0_h1) _ _ (fun j p b h => scales_at i arg4 harg4 arg8 k0_h1 x3 k hk arg8.view.junk 128 inb_S128x2x384_S128x2x128_0_0_128 j p b h) (fun j l => words_at arg3 harg3 x2 k.val 31 hk (by omega) ((by decide +kernel : ∀ k : Fin k0_t1_loop.trips, k0_off64 k = ![128 * k.val, 128 * 31]) k) (k0_off64_inb i k k0_h1) j l),
    chunk_ok x2 x3 k.val 30 112 128 hk (by omega) (by omega) (by omega) ((by decide +kernel : ∀ k : Fin k0_t1_loop.trips, k0_off63 k = ![256 * k.val, 128 * 30]) k) (k0_off63_inb i k k0_h1) _ _ (fun j p b h => scales_at i arg4 harg4 arg8 k0_h1 x3 k hk arg8.view.junk 128 inb_S128x2x384_S128x2x128_0_0_128 j p b h) (fun j l => words_at arg3 harg3 x2 k.val 30 hk (by omega) ((by decide +kernel : ∀ k : Fin k0_t1_loop.trips, k0_off62 k = ![128 * k.val, 128 * 30]) k) (k0_off62_inb i k k0_h1) j l),
    chunk_ok x2 x3 k.val 29 104 128 hk (by omega) (by omega) (by omega) ((by decide +kernel : ∀ k : Fin k0_t1_loop.trips, k0_off61 k = ![256 * k.val, 128 * 29]) k) (k0_off61_inb i k k0_h1) _ _ (fun j p b h => scales_at i arg4 harg4 arg8 k0_h1 x3 k hk arg8.view.junk 128 inb_S128x2x384_S128x2x128_0_0_128 j p b h) (fun j l => words_at arg3 harg3 x2 k.val 29 hk (by omega) ((by decide +kernel : ∀ k : Fin k0_t1_loop.trips, k0_off60 k = ![128 * k.val, 128 * 29]) k) (k0_off60_inb i k k0_h1) j l),
    chunk_ok x2 x3 k.val 28 96 128 hk (by omega) (by omega) (by omega) ((by decide +kernel : ∀ k : Fin k0_t1_loop.trips, k0_off59 k = ![256 * k.val, 128 * 28]) k) (k0_off59_inb i k k0_h1) _ _ (fun j p b h => scales_at i arg4 harg4 arg8 k0_h1 x3 k hk arg8.view.junk 128 inb_S128x2x384_S128x2x128_0_0_128 j p b h) (fun j l => words_at arg3 harg3 x2 k.val 28 hk (by omega) ((by decide +kernel : ∀ k : Fin k0_t1_loop.trips, k0_off58 k = ![128 * k.val, 128 * 28]) k) (k0_off58_inb i k k0_h1) j l),
    chunk_ok x2 x3 k.val 27 88 128 hk (by omega) (by omega) (by omega) ((by decide +kernel : ∀ k : Fin k0_t1_loop.trips, k0_off57 k = ![256 * k.val, 128 * 27]) k) (k0_off57_inb i k k0_h1) _ _ (fun j p b h => scales_at i arg4 harg4 arg8 k0_h1 x3 k hk arg8.view.junk 128 inb_S128x2x384_S128x2x128_0_0_128 j p b h) (fun j l => words_at arg3 harg3 x2 k.val 27 hk (by omega) ((by decide +kernel : ∀ k : Fin k0_t1_loop.trips, k0_off56 k = ![128 * k.val, 128 * 27]) k) (k0_off56_inb i k k0_h1) j l),
    chunk_ok x2 x3 k.val 26 80 128 hk (by omega) (by omega) (by omega) ((by decide +kernel : ∀ k : Fin k0_t1_loop.trips, k0_off55 k = ![256 * k.val, 128 * 26]) k) (k0_off55_inb i k k0_h1) _ _ (fun j p b h => scales_at i arg4 harg4 arg8 k0_h1 x3 k hk arg8.view.junk 128 inb_S128x2x384_S128x2x128_0_0_128 j p b h) (fun j l => words_at arg3 harg3 x2 k.val 26 hk (by omega) ((by decide +kernel : ∀ k : Fin k0_t1_loop.trips, k0_off54 k = ![128 * k.val, 128 * 26]) k) (k0_off54_inb i k k0_h1) j l),
    chunk_ok x2 x3 k.val 25 72 128 hk (by omega) (by omega) (by omega) ((by decide +kernel : ∀ k : Fin k0_t1_loop.trips, k0_off53 k = ![256 * k.val, 128 * 25]) k) (k0_off53_inb i k k0_h1) _ _ (fun j p b h => scales_at i arg4 harg4 arg8 k0_h1 x3 k hk arg8.view.junk 128 inb_S128x2x384_S128x2x128_0_0_128 j p b h) (fun j l => words_at arg3 harg3 x2 k.val 25 hk (by omega) ((by decide +kernel : ∀ k : Fin k0_t1_loop.trips, k0_off52 k = ![128 * k.val, 128 * 25]) k) (k0_off52_inb i k k0_h1) j l),
    chunk_ok x2 x3 k.val 24 64 128 hk (by omega) (by omega) (by omega) ((by decide +kernel : ∀ k : Fin k0_t1_loop.trips, k0_off51 k = ![256 * k.val, 128 * 24]) k) (k0_off51_inb i k k0_h1) _ _ (fun j p b h => scales_at i arg4 harg4 arg8 k0_h1 x3 k hk arg8.view.junk 128 inb_S128x2x384_S128x2x128_0_0_128 j p b h) (fun j l => words_at arg3 harg3 x2 k.val 24 hk (by omega) ((by decide +kernel : ∀ k : Fin k0_t1_loop.trips, k0_off50 k = ![128 * k.val, 128 * 24]) k) (k0_off50_inb i k k0_h1) j l),
    chunk_ok x2 x3 k.val 23 56 128 hk (by omega) (by omega) (by omega) ((by decide +kernel : ∀ k : Fin k0_t1_loop.trips, k0_off49 k = ![256 * k.val, 128 * 23]) k) (k0_off49_inb i k k0_h1) _ _ (fun j p b h => scales_at i arg4 harg4 arg8 k0_h1 x3 k hk arg8.view.junk 128 inb_S128x2x384_S128x2x128_0_0_128 j p b h) (fun j l => words_at arg3 harg3 x2 k.val 23 hk (by omega) ((by decide +kernel : ∀ k : Fin k0_t1_loop.trips, k0_off48 k = ![128 * k.val, 128 * 23]) k) (k0_off48_inb i k k0_h1) j l),
    chunk_ok x2 x3 k.val 22 48 128 hk (by omega) (by omega) (by omega) ((by decide +kernel : ∀ k : Fin k0_t1_loop.trips, k0_off47 k = ![256 * k.val, 128 * 22]) k) (k0_off47_inb i k k0_h1) _ _ (fun j p b h => scales_at i arg4 harg4 arg8 k0_h1 x3 k hk arg8.view.junk 128 inb_S128x2x384_S128x2x128_0_0_128 j p b h) (fun j l => words_at arg3 harg3 x2 k.val 22 hk (by omega) ((by decide +kernel : ∀ k : Fin k0_t1_loop.trips, k0_off46 k = ![128 * k.val, 128 * 22]) k) (k0_off46_inb i k k0_h1) j l),
    chunk_ok x2 x3 k.val 21 40 128 hk (by omega) (by omega) (by omega) ((by decide +kernel : ∀ k : Fin k0_t1_loop.trips, k0_off45 k = ![256 * k.val, 128 * 21]) k) (k0_off45_inb i k k0_h1) _ _ (fun j p b h => scales_at i arg4 harg4 arg8 k0_h1 x3 k hk arg8.view.junk 128 inb_S128x2x384_S128x2x128_0_0_128 j p b h) (fun j l => words_at arg3 harg3 x2 k.val 21 hk (by omega) ((by decide +kernel : ∀ k : Fin k0_t1_loop.trips, k0_off44 k = ![128 * k.val, 128 * 21]) k) (k0_off44_inb i k k0_h1) j l),
    chunk_ok x2 x3 k.val 20 32 128 hk (by omega) (by omega) (by omega) ((by decide +kernel : ∀ k : Fin k0_t1_loop.trips, k0_off43 k = ![256 * k.val, 128 * 20]) k) (k0_off43_inb i k k0_h1) _ _ (fun j p b h => scales_at i arg4 harg4 arg8 k0_h1 x3 k hk arg8.view.junk 128 inb_S128x2x384_S128x2x128_0_0_128 j p b h) (fun j l => words_at arg3 harg3 x2 k.val 20 hk (by omega) ((by decide +kernel : ∀ k : Fin k0_t1_loop.trips, k0_off42 k = ![128 * k.val, 128 * 20]) k) (k0_off42_inb i k k0_h1) j l),
    chunk_ok x2 x3 k.val 19 24 128 hk (by omega) (by omega) (by omega) ((by decide +kernel : ∀ k : Fin k0_t1_loop.trips, k0_off41 k = ![256 * k.val, 128 * 19]) k) (k0_off41_inb i k k0_h1) _ _ (fun j p b h => scales_at i arg4 harg4 arg8 k0_h1 x3 k hk arg8.view.junk 128 inb_S128x2x384_S128x2x128_0_0_128 j p b h) (fun j l => words_at arg3 harg3 x2 k.val 19 hk (by omega) ((by decide +kernel : ∀ k : Fin k0_t1_loop.trips, k0_off40 k = ![128 * k.val, 128 * 19]) k) (k0_off40_inb i k k0_h1) j l),
    chunk_ok x2 x3 k.val 18 16 128 hk (by omega) (by omega) (by omega) ((by decide +kernel : ∀ k : Fin k0_t1_loop.trips, k0_off39 k = ![256 * k.val, 128 * 18]) k) (k0_off39_inb i k k0_h1) _ _ (fun j p b h => scales_at i arg4 harg4 arg8 k0_h1 x3 k hk arg8.view.junk 128 inb_S128x2x384_S128x2x128_0_0_128 j p b h) (fun j l => words_at arg3 harg3 x2 k.val 18 hk (by omega) ((by decide +kernel : ∀ k : Fin k0_t1_loop.trips, k0_off38 k = ![128 * k.val, 128 * 18]) k) (k0_off38_inb i k k0_h1) j l),
    chunk_ok x2 x3 k.val 17 8 128 hk (by omega) (by omega) (by omega) ((by decide +kernel : ∀ k : Fin k0_t1_loop.trips, k0_off37 k = ![256 * k.val, 128 * 17]) k) (k0_off37_inb i k k0_h1) _ _ (fun j p b h => scales_at i arg4 harg4 arg8 k0_h1 x3 k hk arg8.view.junk 128 inb_S128x2x384_S128x2x128_0_0_128 j p b h) (fun j l => words_at arg3 harg3 x2 k.val 17 hk (by omega) ((by decide +kernel : ∀ k : Fin k0_t1_loop.trips, k0_off36 k = ![128 * k.val, 128 * 17]) k) (k0_off36_inb i k k0_h1) j l),
    chunk_ok x2 x3 k.val 16 0 128 hk (by omega) (by omega) (by omega) ((by decide +kernel : ∀ k : Fin k0_t1_loop.trips, k0_off35 k = ![256 * k.val, 128 * 16]) k) (k0_off35_inb i k k0_h1) _ _ (fun j p b h => scales_at i arg4 harg4 arg8 k0_h1 x3 k hk arg8.view.junk 128 inb_S128x2x384_S128x2x128_0_0_128 j p b h) (fun j l => words_at arg3 harg3 x2 k.val 16 hk (by omega) ((by decide +kernel : ∀ k : Fin k0_t1_loop.trips, k0_off34 k = ![128 * k.val, 128 * 16]) k) (k0_off34_inb i k k0_h1) j l),
    chunk_ok x2 x3 k.val 15 120 0 hk (by omega) (by omega) (by omega) ((by decide +kernel : ∀ k : Fin k0_t1_loop.trips, k0_off33 k = ![256 * k.val, 128 * 15]) k) (k0_off33_inb i k k0_h1) _ _ (fun j p b h => scales_at i arg4 harg4 arg8 k0_h1 x3 k hk arg8.view.junk 0 inb_S128x2x384_S128x2x128_0_0_0 j p b h) (fun j l => words_at arg3 harg3 x2 k.val 15 hk (by omega) ((by decide +kernel : ∀ k : Fin k0_t1_loop.trips, k0_off32 k = ![128 * k.val, 128 * 15]) k) (k0_off32_inb i k k0_h1) j l),
    chunk_ok x2 x3 k.val 14 112 0 hk (by omega) (by omega) (by omega) ((by decide +kernel : ∀ k : Fin k0_t1_loop.trips, k0_off31 k = ![256 * k.val, 128 * 14]) k) (k0_off31_inb i k k0_h1) _ _ (fun j p b h => scales_at i arg4 harg4 arg8 k0_h1 x3 k hk arg8.view.junk 0 inb_S128x2x384_S128x2x128_0_0_0 j p b h) (fun j l => words_at arg3 harg3 x2 k.val 14 hk (by omega) ((by decide +kernel : ∀ k : Fin k0_t1_loop.trips, k0_off30 k = ![128 * k.val, 128 * 14]) k) (k0_off30_inb i k k0_h1) j l),
    chunk_ok x2 x3 k.val 13 104 0 hk (by omega) (by omega) (by omega) ((by decide +kernel : ∀ k : Fin k0_t1_loop.trips, k0_off29 k = ![256 * k.val, 128 * 13]) k) (k0_off29_inb i k k0_h1) _ _ (fun j p b h => scales_at i arg4 harg4 arg8 k0_h1 x3 k hk arg8.view.junk 0 inb_S128x2x384_S128x2x128_0_0_0 j p b h) (fun j l => words_at arg3 harg3 x2 k.val 13 hk (by omega) ((by decide +kernel : ∀ k : Fin k0_t1_loop.trips, k0_off28 k = ![128 * k.val, 128 * 13]) k) (k0_off28_inb i k k0_h1) j l),
    chunk_ok x2 x3 k.val 12 96 0 hk (by omega) (by omega) (by omega) ((by decide +kernel : ∀ k : Fin k0_t1_loop.trips, k0_off27 k = ![256 * k.val, 128 * 12]) k) (k0_off27_inb i k k0_h1) _ _ (fun j p b h => scales_at i arg4 harg4 arg8 k0_h1 x3 k hk arg8.view.junk 0 inb_S128x2x384_S128x2x128_0_0_0 j p b h) (fun j l => words_at arg3 harg3 x2 k.val 12 hk (by omega) ((by decide +kernel : ∀ k : Fin k0_t1_loop.trips, k0_off26 k = ![128 * k.val, 128 * 12]) k) (k0_off26_inb i k k0_h1) j l),
    chunk_ok x2 x3 k.val 11 88 0 hk (by omega) (by omega) (by omega) ((by decide +kernel : ∀ k : Fin k0_t1_loop.trips, k0_off25 k = ![256 * k.val, 128 * 11]) k) (k0_off25_inb i k k0_h1) _ _ (fun j p b h => scales_at i arg4 harg4 arg8 k0_h1 x3 k hk arg8.view.junk 0 inb_S128x2x384_S128x2x128_0_0_0 j p b h) (fun j l => words_at arg3 harg3 x2 k.val 11 hk (by omega) ((by decide +kernel : ∀ k : Fin k0_t1_loop.trips, k0_off24 k = ![128 * k.val, 128 * 11]) k) (k0_off24_inb i k k0_h1) j l),
    chunk_ok x2 x3 k.val 10 80 0 hk (by omega) (by omega) (by omega) ((by decide +kernel : ∀ k : Fin k0_t1_loop.trips, k0_off23 k = ![256 * k.val, 128 * 10]) k) (k0_off23_inb i k k0_h1) _ _ (fun j p b h => scales_at i arg4 harg4 arg8 k0_h1 x3 k hk arg8.view.junk 0 inb_S128x2x384_S128x2x128_0_0_0 j p b h) (fun j l => words_at arg3 harg3 x2 k.val 10 hk (by omega) ((by decide +kernel : ∀ k : Fin k0_t1_loop.trips, k0_off22 k = ![128 * k.val, 128 * 10]) k) (k0_off22_inb i k k0_h1) j l),
    chunk_ok x2 x3 k.val 9 72 0 hk (by omega) (by omega) (by omega) ((by decide +kernel : ∀ k : Fin k0_t1_loop.trips, k0_off21 k = ![256 * k.val, 128 * 9]) k) (k0_off21_inb i k k0_h1) _ _ (fun j p b h => scales_at i arg4 harg4 arg8 k0_h1 x3 k hk arg8.view.junk 0 inb_S128x2x384_S128x2x128_0_0_0 j p b h) (fun j l => words_at arg3 harg3 x2 k.val 9 hk (by omega) ((by decide +kernel : ∀ k : Fin k0_t1_loop.trips, k0_off20 k = ![128 * k.val, 128 * 9]) k) (k0_off20_inb i k k0_h1) j l),
    chunk_ok x2 x3 k.val 8 64 0 hk (by omega) (by omega) (by omega) ((by decide +kernel : ∀ k : Fin k0_t1_loop.trips, k0_off19 k = ![256 * k.val, 128 * 8]) k) (k0_off19_inb i k k0_h1) _ _ (fun j p b h => scales_at i arg4 harg4 arg8 k0_h1 x3 k hk arg8.view.junk 0 inb_S128x2x384_S128x2x128_0_0_0 j p b h) (fun j l => words_at arg3 harg3 x2 k.val 8 hk (by omega) ((by decide +kernel : ∀ k : Fin k0_t1_loop.trips, k0_off18 k = ![128 * k.val, 128 * 8]) k) (k0_off18_inb i k k0_h1) j l),
    chunk_ok x2 x3 k.val 7 56 0 hk (by omega) (by omega) (by omega) ((by decide +kernel : ∀ k : Fin k0_t1_loop.trips, k0_off17 k = ![256 * k.val, 128 * 7]) k) (k0_off17_inb i k k0_h1) _ _ (fun j p b h => scales_at i arg4 harg4 arg8 k0_h1 x3 k hk arg8.view.junk 0 inb_S128x2x384_S128x2x128_0_0_0 j p b h) (fun j l => words_at arg3 harg3 x2 k.val 7 hk (by omega) ((by decide +kernel : ∀ k : Fin k0_t1_loop.trips, k0_off16 k = ![128 * k.val, 128 * 7]) k) (k0_off16_inb i k k0_h1) j l),
    chunk_ok x2 x3 k.val 6 48 0 hk (by omega) (by omega) (by omega) ((by decide +kernel : ∀ k : Fin k0_t1_loop.trips, k0_off15 k = ![256 * k.val, 128 * 6]) k) (k0_off15_inb i k k0_h1) _ _ (fun j p b h => scales_at i arg4 harg4 arg8 k0_h1 x3 k hk arg8.view.junk 0 inb_S128x2x384_S128x2x128_0_0_0 j p b h) (fun j l => words_at arg3 harg3 x2 k.val 6 hk (by omega) ((by decide +kernel : ∀ k : Fin k0_t1_loop.trips, k0_off14 k = ![128 * k.val, 128 * 6]) k) (k0_off14_inb i k k0_h1) j l),
    chunk_ok x2 x3 k.val 5 40 0 hk (by omega) (by omega) (by omega) ((by decide +kernel : ∀ k : Fin k0_t1_loop.trips, k0_off13 k = ![256 * k.val, 128 * 5]) k) (k0_off13_inb i k k0_h1) _ _ (fun j p b h => scales_at i arg4 harg4 arg8 k0_h1 x3 k hk arg8.view.junk 0 inb_S128x2x384_S128x2x128_0_0_0 j p b h) (fun j l => words_at arg3 harg3 x2 k.val 5 hk (by omega) ((by decide +kernel : ∀ k : Fin k0_t1_loop.trips, k0_off12 k = ![128 * k.val, 128 * 5]) k) (k0_off12_inb i k k0_h1) j l),
    chunk_ok x2 x3 k.val 4 32 0 hk (by omega) (by omega) (by omega) ((by decide +kernel : ∀ k : Fin k0_t1_loop.trips, k0_off11 k = ![256 * k.val, 128 * 4]) k) (k0_off11_inb i k k0_h1) _ _ (fun j p b h => scales_at i arg4 harg4 arg8 k0_h1 x3 k hk arg8.view.junk 0 inb_S128x2x384_S128x2x128_0_0_0 j p b h) (fun j l => words_at arg3 harg3 x2 k.val 4 hk (by omega) ((by decide +kernel : ∀ k : Fin k0_t1_loop.trips, k0_off10 k = ![128 * k.val, 128 * 4]) k) (k0_off10_inb i k k0_h1) j l),
    chunk_ok x2 x3 k.val 3 24 0 hk (by omega) (by omega) (by omega) ((by decide +kernel : ∀ k : Fin k0_t1_loop.trips, k0_off9 k = ![256 * k.val, 128 * 3]) k) (k0_off9_inb i k k0_h1) _ _ (fun j p b h => scales_at i arg4 harg4 arg8 k0_h1 x3 k hk arg8.view.junk 0 inb_S128x2x384_S128x2x128_0_0_0 j p b h) (fun j l => words_at arg3 harg3 x2 k.val 3 hk (by omega) ((by decide +kernel : ∀ k : Fin k0_t1_loop.trips, k0_off8 k = ![128 * k.val, 128 * 3]) k) (k0_off8_inb i k k0_h1) j l),
    chunk_ok x2 x3 k.val 2 16 0 hk (by omega) (by omega) (by omega) ((by decide +kernel : ∀ k : Fin k0_t1_loop.trips, k0_off7 k = ![256 * k.val, 128 * 2]) k) (k0_off7_inb i k k0_h1) _ _ (fun j p b h => scales_at i arg4 harg4 arg8 k0_h1 x3 k hk arg8.view.junk 0 inb_S128x2x384_S128x2x128_0_0_0 j p b h) (fun j l => words_at arg3 harg3 x2 k.val 2 hk (by omega) ((by decide +kernel : ∀ k : Fin k0_t1_loop.trips, k0_off6 k = ![128 * k.val, 128 * 2]) k) (k0_off6_inb i k k0_h1) j l),
    chunk_ok x2 x3 k.val 1 8 0 hk (by omega) (by omega) (by omega) ((by decide +kernel : ∀ k : Fin k0_t1_loop.trips, k0_off5 k = ![256 * k.val, 128 * 1]) k) (k0_off5_inb i k k0_h1) _ _ (fun j p b h => scales_at i arg4 harg4 arg8 k0_h1 x3 k hk arg8.view.junk 0 inb_S128x2x384_S128x2x128_0_0_0 j p b h) (fun j l => words_at arg3 harg3 x2 k.val 1 hk (by omega) ((by decide +kernel : ∀ k : Fin k0_t1_loop.trips, k0_off4 k = ![128 * k.val, 128 * 1]) k) (k0_off4_inb i k k0_h1) j l),
    chunk_ok x2 x3 k.val 0 0 0 hk (by omega) (by omega) (by omega) ((by decide +kernel : ∀ k : Fin k0_t1_loop.trips, k0_off3 k = ![256 * k.val, 128 * 0]) k) (k0_off3_inb i k k0_h1) _ _ (fun j p b h => scales_at i arg4 harg4 arg8 k0_h1 x3 k hk arg8.view.junk 0 inb_S128x2x384_S128x2x128_0_0_0 j p b h) (fun j l => words_at arg3 harg3 x2 k.val 0 hk (by omega) ((by decide +kernel : ∀ k : Fin k0_t1_loop.trips, k0_off2 k = ![128 * k.val, 128 * 0]) k) (k0_off2_inb i k k0_h1) j l),
    trivial⟩

/-- A store at the head of the list covers what it covers; -/
theorem cov_head {y : S1792x5120.Idx} {q : View.Piece (Elt Ideal) S1792x5120 .bf16} {L : List (View.Piece (Elt Ideal) S1792x5120 .bf16)} (h : y ∈ q.1.set) : ∃ r ∈ q :: L, y ∈ r.1.set :=
  ⟨q, List.mem_cons_self, h⟩

/-- a later one of the list too. -/
theorem cov_skip {y : S1792x5120.Idx} {q : View.Piece (Elt Ideal) S1792x5120 .bf16} {L : List (View.Piece (Elt Ideal) S1792x5120 .bf16)} (h : ∃ r ∈ L, y ∈ r.1.set) : ∃ r ∈ q :: L, y ∈ r.1.set :=
  let ⟨r, hr, hy⟩ := h
  ⟨r, List.mem_cons_of_mem _ hr, hy⟩

/-- The indices of chunk `c` of trip `k`. -/
theorem mem_chunk {k c : ℕ} {off : Fin 2 → ℕ} (hoff : off = ![256 * k, 128 * c]) (inb : ∀ a, off a + S256x128.size a ≤ S1792x5120.size a) (y : S1792x5120.Idx)
    (h0 : (y 0).val / 256 = k) (h1 : (y 1).val / 128 = c) : y ∈ (Rect.unit (s := S1792x5120) off S256x128.size inb).set := by
  subst hoff
  refine Rect.mem_set_unit.mpr fun a => ?_
  match a with
  | ⟨0, _⟩ => exact ⟨by show 256 * k ≤ (y 0).val; omega, by show (y 0).val < 256 * k + 256; omega⟩
  | ⟨1, _⟩ => exact ⟨by show 128 * c ≤ (y 1).val; omega, by show (y 1).val < 128 * c + 128; omega⟩

set_option maxHeartbeats 8000000 in
/-- A trip's stores cover its 256 rows. -/
theorem trip_cov (𝒱 : Variants) (c : Dev nD) (bd : Option 𝒱.V) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (k0_h1 : k0_cond1 i = 1#1) (x2 : Vec Ideal S896x5120 .i8) (x3 : Vec Ideal S1792x320 .fp8e4m3) (k : Fin k0_t1_loop.trips)
    (f8 : BufTy.Contents (Elt Ideal) arg8.view.ty) (f9 : BufTy.Contents (Elt Ideal) arg9.view.ty) (y : S1792x5120.Idx) (hy : (y 0).val / 256 = k.val) :
    ∃ q ∈ (trip_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) k).2.1 f8 f9, y ∈ q.1.set := by
  have hlt : (y 1).val < 5120 := (y 1).isLt
  rw [trip_pieces]
  by_cases h39 : (y 1).val / 128 = 39
  · exact cov_head (mem_chunk ((by decide +kernel : ∀ k : Fin k0_t1_loop.trips, k0_off81 k = ![256 * k.val, 128 * 39]) k) (k0_off81_inb i k k0_h1) y hy h39)
  refine cov_skip ?_
  by_cases h38 : (y 1).val / 128 = 38
  · exact cov_head (mem_chunk ((by decide +kernel : ∀ k : Fin k0_t1_loop.trips, k0_off79 k = ![256 * k.val, 128 * 38]) k) (k0_off79_inb i k k0_h1) y hy h38)
  refine cov_skip ?_
  by_cases h37 : (y 1).val / 128 = 37
  · exact cov_head (mem_chunk ((by decide +kernel : ∀ k : Fin k0_t1_loop.trips, k0_off77 k = ![256 * k.val, 128 * 37]) k) (k0_off77_inb i k k0_h1) y hy h37)
  refine cov_skip ?_
  by_cases h36 : (y 1).val / 128 = 36
  · exact cov_head (mem_chunk ((by decide +kernel : ∀ k : Fin k0_t1_loop.trips, k0_off75 k = ![256 * k.val, 128 * 36]) k) (k0_off75_inb i k k0_h1) y hy h36)
  refine cov_skip ?_
  by_cases h35 : (y 1).val / 128 = 35
  · exact cov_head (mem_chunk ((by decide +kernel : ∀ k : Fin k0_t1_loop.trips, k0_off73 k = ![256 * k.val, 128 * 35]) k) (k0_off73_inb i k k0_h1) y hy h35)
  refine cov_skip ?_
  by_cases h34 : (y 1).val / 128 = 34
  · exact cov_head (mem_chunk ((by decide +kernel : ∀ k : Fin k0_t1_loop.trips, k0_off71 k = ![256 * k.val, 128 * 34]) k) (k0_off71_inb i k k0_h1) y hy h34)
  refine cov_skip ?_
  by_cases h33 : (y 1).val / 128 = 33
  · exact cov_head (mem_chunk ((by decide +kernel : ∀ k : Fin k0_t1_loop.trips, k0_off69 k = ![256 * k.val, 128 * 33]) k) (k0_off69_inb i k k0_h1) y hy h33)
  refine cov_skip ?_
  by_cases h32 : (y 1).val / 128 = 32
  · exact cov_head (mem_chunk ((by decide +kernel : ∀ k : Fin k0_t1_loop.trips, k0_off67 k = ![256 * k.val, 128 * 32]) k) (k0_off67_inb i k k0_h1) y hy h32)
  refine cov_skip ?_
  by_cases h31 : (y 1).val / 128 = 31
  · exact cov_head (mem_chunk ((by decide +kernel : ∀ k : Fin k0_t1_loop.trips, k0_off65 k = ![256 * k.val, 128 * 31]) k) (k0_off65_inb i k k0_h1) y hy h31)
  refine cov_skip ?_
  by_cases h30 : (y 1).val / 128 = 30
  · exact cov_head (mem_chunk ((by decide +kernel : ∀ k : Fin k0_t1_loop.trips, k0_off63 k = ![256 * k.val, 128 * 30]) k) (k0_off63_inb i k k0_h1) y hy h30)
  refine cov_skip ?_
  by_cases h29 : (y 1).val / 128 = 29
  · exact cov_head (mem_chunk ((by decide +kernel : ∀ k : Fin k0_t1_loop.trips, k0_off61 k = ![256 * k.val, 128 * 29]) k) (k0_off61_inb i k k0_h1) y hy h29)
  refine cov_skip ?_
  by_cases h28 : (y 1).val / 128 = 28
  · exact cov_head (mem_chunk ((by decide +kernel : ∀ k : Fin k0_t1_loop.trips, k0_off59 k = ![256 * k.val, 128 * 28]) k) (k0_off59_inb i k k0_h1) y hy h28)
  refine cov_skip ?_
  by_cases h27 : (y 1).val / 128 = 27
  · exact cov_head (mem_chunk ((by decide +kernel : ∀ k : Fin k0_t1_loop.trips, k0_off57 k = ![256 * k.val, 128 * 27]) k) (k0_off57_inb i k k0_h1) y hy h27)
  refine cov_skip ?_
  by_cases h26 : (y 1).val / 128 = 26
  · exact cov_head (mem_chunk ((by decide +kernel : ∀ k : Fin k0_t1_loop.trips, k0_off55 k = ![256 * k.val, 128 * 26]) k) (k0_off55_inb i k k0_h1) y hy h26)
  refine cov_skip ?_
  by_cases h25 : (y 1).val / 128 = 25
  · exact cov_head (mem_chunk ((by decide +kernel : ∀ k : Fin k0_t1_loop.trips, k0_off53 k = ![256 * k.val, 128 * 25]) k) (k0_off53_inb i k k0_h1) y hy h25)
  refine cov_skip ?_
  by_cases h24 : (y 1).val / 128 = 24
  · exact cov_head (mem_chunk ((by decide +kernel : ∀ k : Fin k0_t1_loop.trips, k0_off51 k = ![256 * k.val, 128 * 24]) k) (k0_off51_inb i k k0_h1) y hy h24)
  refine cov_skip ?_
  by_cases h23 : (y 1).val / 128 = 23
  · exact cov_head (mem_chunk ((by decide +kernel : ∀ k : Fin k0_t1_loop.trips, k0_off49 k = ![256 * k.val, 128 * 23]) k) (k0_off49_inb i k k0_h1) y hy h23)
  refine cov_skip ?_
  by_cases h22 : (y 1).val / 128 = 22
  · exact cov_head (mem_chunk ((by decide +kernel : ∀ k : Fin k0_t1_loop.trips, k0_off47 k = ![256 * k.val, 128 * 22]) k) (k0_off47_inb i k k0_h1) y hy h22)
  refine cov_skip ?_
  by_cases h21 : (y 1).val / 128 = 21
  · exact cov_head (mem_chunk ((by decide +kernel : ∀ k : Fin k0_t1_loop.trips, k0_off45 k = ![256 * k.val, 128 * 21]) k) (k0_off45_inb i k k0_h1) y hy h21)
  refine cov_skip ?_
  by_cases h20 : (y 1).val / 128 = 20
  · exact cov_head (mem_chunk ((by decide +kernel : ∀ k : Fin k0_t1_loop.trips, k0_off43 k = ![256 * k.val, 128 * 20]) k) (k0_off43_inb i k k0_h1) y hy h20)
  refine cov_skip ?_
  by_cases h19 : (y 1).val / 128 = 19
  · exact cov_head (mem_chunk ((by decide +kernel : ∀ k : Fin k0_t1_loop.trips, k0_off41 k = ![256 * k.val, 128 * 19]) k) (k0_off41_inb i k k0_h1) y hy h19)
  refine cov_skip ?_
  by_cases h18 : (y 1).val / 128 = 18
  · exact cov_head (mem_chunk ((by decide +kernel : ∀ k : Fin k0_t1_loop.trips, k0_off39 k = ![256 * k.val, 128 * 18]) k) (k0_off39_inb i k k0_h1) y hy h18)
  refine cov_skip ?_
  by_cases h17 : (y 1).val / 128 = 17
  · exact cov_head (mem_chunk ((by decide +kernel : ∀ k : Fin k0_t1_loop.trips, k0_off37 k = ![256 * k.val, 128 * 17]) k) (k0_off37_inb i k k0_h1) y hy h17)
  refine cov_skip ?_
  by_cases h16 : (y 1).val / 128 = 16
  · exact cov_head (mem_chunk ((by decide +kernel : ∀ k : Fin k0_t1_loop.trips, k0_off35 k = ![256 * k.val, 128 * 16]) k) (k0_off35_inb i k k0_h1) y hy h16)
  refine cov_skip ?_
  by_cases h15 : (y 1).val / 128 = 15
  · exact cov_head (mem_chunk ((by decide +kernel : ∀ k : Fin k0_t1_loop.trips, k0_off33 k = ![256 * k.val, 128 * 15]) k) (k0_off33_inb i k k0_h1) y hy h15)
  refine cov_skip ?_
  by_cases h14 : (y 1).val / 128 = 14
  · exact cov_head (mem_chunk ((by decide +kernel : ∀ k : Fin k0_t1_loop.trips, k0_off31 k = ![256 * k.val, 128 * 14]) k) (k0_off31_inb i k k0_h1) y hy h14)
  refine cov_skip ?_
  by_cases h13 : (y 1).val / 128 = 13
  · exact cov_head (mem_chunk ((by decide +kernel : ∀ k : Fin k0_t1_loop.trips, k0_off29 k = ![256 * k.val, 128 * 13]) k) (k0_off29_inb i k k0_h1) y hy h13)
  refine cov_skip ?_
  by_cases h12 : (y 1).val / 128 = 12
  · exact cov_head (mem_chunk ((by decide +kernel : ∀ k : Fin k0_t1_loop.trips, k0_off27 k = ![256 * k.val, 128 * 12]) k) (k0_off27_inb i k k0_h1) y hy h12)
  refine cov_skip ?_
  by_cases h11 : (y 1).val / 128 = 11
  · exact cov_head (mem_chunk ((by decide +kernel : ∀ k : Fin k0_t1_loop.trips, k0_off25 k = ![256 * k.val, 128 * 11]) k) (k0_off25_inb i k k0_h1) y hy h11)
  refine cov_skip ?_
  by_cases h10 : (y 1).val / 128 = 10
  · exact cov_head (mem_chunk ((by decide +kernel : ∀ k : Fin k0_t1_loop.trips, k0_off23 k = ![256 * k.val, 128 * 10]) k) (k0_off23_inb i k k0_h1) y hy h10)
  refine cov_skip ?_
  by_cases h9 : (y 1).val / 128 = 9
  · exact cov_head (mem_chunk ((by decide +kernel : ∀ k : Fin k0_t1_loop.trips, k0_off21 k = ![256 * k.val, 128 * 9]) k) (k0_off21_inb i k k0_h1) y hy h9)
  refine cov_skip ?_
  by_cases h8 : (y 1).val / 128 = 8
  · exact cov_head (mem_chunk ((by decide +kernel : ∀ k : Fin k0_t1_loop.trips, k0_off19 k = ![256 * k.val, 128 * 8]) k) (k0_off19_inb i k k0_h1) y hy h8)
  refine cov_skip ?_
  by_cases h7 : (y 1).val / 128 = 7
  · exact cov_head (mem_chunk ((by decide +kernel : ∀ k : Fin k0_t1_loop.trips, k0_off17 k = ![256 * k.val, 128 * 7]) k) (k0_off17_inb i k k0_h1) y hy h7)
  refine cov_skip ?_
  by_cases h6 : (y 1).val / 128 = 6
  · exact cov_head (mem_chunk ((by decide +kernel : ∀ k : Fin k0_t1_loop.trips, k0_off15 k = ![256 * k.val, 128 * 6]) k) (k0_off15_inb i k k0_h1) y hy h6)
  refine cov_skip ?_
  by_cases h5 : (y 1).val / 128 = 5
  · exact cov_head (mem_chunk ((by decide +kernel : ∀ k : Fin k0_t1_loop.trips, k0_off13 k = ![256 * k.val, 128 * 5]) k) (k0_off13_inb i k k0_h1) y hy h5)
  refine cov_skip ?_
  by_cases h4 : (y 1).val / 128 = 4
  · exact cov_head (mem_chunk ((by decide +kernel : ∀ k : Fin k0_t1_loop.trips, k0_off11 k = ![256 * k.val, 128 * 4]) k) (k0_off11_inb i k k0_h1) y hy h4)
  refine cov_skip ?_
  by_cases h3 : (y 1).val / 128 = 3
  · exact cov_head (mem_chunk ((by decide +kernel : ∀ k : Fin k0_t1_loop.trips, k0_off9 k = ![256 * k.val, 128 * 3]) k) (k0_off9_inb i k k0_h1) y hy h3)
  refine cov_skip ?_
  by_cases h2 : (y 1).val / 128 = 2
  · exact cov_head (mem_chunk ((by decide +kernel : ∀ k : Fin k0_t1_loop.trips, k0_off7 k = ![256 * k.val, 128 * 2]) k) (k0_off7_inb i k k0_h1) y hy h2)
  refine cov_skip ?_
  by_cases h1 : (y 1).val / 128 = 1
  · exact cov_head (mem_chunk ((by decide +kernel : ∀ k : Fin k0_t1_loop.trips, k0_off5 k = ![256 * k.val, 128 * 1]) k) (k0_off5_inb i k k0_h1) y hy h1)
  refine cov_skip ?_
  by_cases h0 : (y 1).val / 128 = 0
  · exact cov_head (mem_chunk ((by decide +kernel : ∀ k : Fin k0_t1_loop.trips, k0_off3 k = ![256 * k.val, 128 * 0]) k) (k0_off3_inb i k k0_h1) y hy h0)
  refine cov_skip ?_
  exact absurd hlt (by omega)

/-- Two lists of blocks of the same array, one after the other. -/
theorem piecesOf_append {G : S1792x5120.Idx → Elt Ideal .bf16} {L L' : List (View.Piece (Elt Ideal) S1792x5120 .bf16)} (h : View.PiecesOf G L) (h' : View.PiecesOf G L') : View.PiecesOf G (L ++ L') := by
  induction L with
  | nil => exact h'
  | cons q L ih => exact ⟨h.1, ih h.2⟩

/-- The first `n` trips store blocks of the decoded weights, and cover the first `256 n` rows. -/
theorem trips_ok (𝒱 : Variants) (c : Dev nD) (bd : Option 𝒱.V) (i : grid0.Coords) (arg1 : Memref sig .tc .smem S1 .f32) (harg1 : arg1.IsWhole) (arg2 : Memref sig .tc .vmem S512x5120 .bf16) (harg2 : arg2.IsWhole) (arg3 : Memref sig .tc .vmem S896x5120 .i8) (harg3 : arg3.IsWhole) (arg4 : Memref sig .tc .vmem S1792x320 .fp8e4m3) (harg4 : arg4.IsWhole) (arg5 : Memref sig .tc .vmem S512x1792 .bf16) (harg5 : arg5.IsWhole) (arg6 : Memref sig .tc .vmem S512x5120 .fp8e4m3) (harg6 : arg6.IsWhole) (arg7 : Memref sig .tc .vmem S512x1 .f32) (harg7 : arg7.IsWhole) (arg8 : Memref sig .tc .vmem S128x2x384 .bf16) (harg8 : arg8.IsWhole) (arg9 : Memref sig .tc .vmem S1792x5120 .bf16) (harg9 : arg9.IsWhole) (arg10 : Memref sig .tc .vmem S2x512x5120 .bf16) (harg10 : arg10.IsWhole) (arg11 : Memref sig .tc .vmem S2x512x1 .f32) (harg11 : arg11.IsWhole) (k0_h1 : k0_cond1 i = 1#1) (x2 : Vec Ideal S896x5120 .i8) (x3 : Vec Ideal S1792x320 .fp8e4m3)
    (f8 : BufTy.Contents (Elt Ideal) arg8.view.ty) (f9 : BufTy.Contents (Elt Ideal) arg9.view.ty) (n : ℕ) (hn : n ≤ 7) :
    View.PiecesOf (Wdec x2 x3) (pb_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) f8 f9 n).2
      ∧ ∀ y : S1792x5120.Idx, (y 0).val < 256 * n → ∃ q ∈ (pb_k0_t1 (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) f8 f9 n).2, y ∈ q.1.set := by
  induction n with
  | zero => exact ⟨trivial, fun y h => absurd h (by omega)⟩
  | succ n ih =>
    have hlt : n < k0_t1_loop.trips := lt_of_lt_of_eq (show n < 7 by omega) (by decide +kernel)
    have e := pb_k0_t1_succ (F := Ideal) 𝒱 c bd i arg1 harg1 arg2 harg2 arg3 harg3 arg4 harg4 arg5 harg5 arg6 harg6 arg7 harg7 arg8 harg8 arg9 harg9 arg10 harg10 arg11 harg11 k0_h1 (harg3.unread x2) (harg4.unread x3) f8 f9 ⟨n, hlt⟩
    have hi := ih (by omega)
    rw [show n + 1 = (⟨n, hlt⟩ : Fin k0_t1_loop.trips).val + 1 from rfl, e]
    refine ⟨piecesOf_append (trip_ok 𝒱 c bd i arg1 harg1 arg2 harg2 arg3 harg3 arg4 harg4 arg5 harg5 arg6 harg6 arg7 harg7 arg8 harg8 arg9 harg9 arg10 harg10 arg11 harg11 k0_h1 x2 x3 ⟨n, hlt⟩ _ _) hi.1, fun y hy => ?_⟩
    by_cases h : (y 0).val < 256 * n
    · obtain ⟨q, hq, hm⟩ := hi.2 y h
      exact ⟨q, List.mem_append_right _ hq, hm⟩
    · obtain ⟨q, hq, hm⟩ := trip_cov 𝒱 c bd i arg1 harg1 arg2 harg2 arg3 harg3 arg4 harg4 arg5 harg5 arg6 harg6 arg7 harg7 arg8 harg8 arg9 harg9 arg10 harg10 arg11 harg11 k0_h1 x2 x3 ⟨n, hlt⟩ _ _ y (by
        show (y 0).val / 256 = n
        have : (y 0).val < 256 * (n + 1) := hy
        omega)
      exact ⟨q, List.mem_append_left _ hq, hm⟩

/-- The loop leaves the decoded weights in its scratch, whatever the scratch held before. -/
theorem decodes : Decodes (F := Ideal) Wdec := by
  intro c i arg1 harg1 arg2 harg2 arg3 harg3 arg4 harg4 arg5 harg5 arg6 harg6 arg7 harg7 arg8 harg8 arg9 harg9 arg10 harg10 arg11 harg11 hc0 x2 x3 f8 f9
  obtain ⟨hp, hc⟩ := trips_ok Variants.none c none i arg1 harg1 arg2 harg2 arg3 harg3 arg4 harg4 arg5 harg5 arg6 harg6 arg7 harg7 arg8 harg8 arg9 harg9 arg10 harg10 arg11 harg11 hc0 x2 x3 f8 f9 7 (le_refl _)
  funext y
  exact View.read_writes_apply_of_pieces arg9.view f9 (Wdec x2 x3) _ hp.mem y (hc y (y 0).isLt)

end Cert.KernelIdeal.Run
end
-- ==== Proof.Scale.lean ====
/- The power of two that scales a row, on the extended reals: the search over the exponent field of a 32-bit float that the kernel makes, and the least power
   of two above the row's peak that the reference states, are the same number; so are the two reciprocals. -/
module

public import Idealize.ShloMosaic.Lib.Pointwise

@[expose] public section

noncomputable section

namespace Cert.Scale

open Idealize.ShloMosaic

/-- The float whose exponent field is `w` and whose other bits are zero. -/
def edge (w : BitVec 32) : EReal := Ideal.ofBits .f32 (IntOp.shli .vector w 23#32)

/-- The same, by its value. -/
def E (n : ℕ) : EReal := if n = 0 then 0 else if n < 255 then (((2 : ℝ) ^ ((n : ℤ) - 127) : ℝ) : EReal) else ⊤

/-- The f32 number with exponent field `n` and no fraction is `E n`. -/
theorem edge_ofNat (n : ℕ) (h : n < 256) : edge (BitVec.ofNat 32 n) = E n := by
  have h1 : IntOp.shli .vector (BitVec.ofNat 32 n) 23#32 = BitVec.ofNat 32 (n * 2 ^ 23) :=
    (by decide +kernel : ∀ n : Fin 256, IntOp.shli .vector (BitVec.ofNat 32 n.val) 23#32 = BitVec.ofNat 32 (n.val * 2 ^ 23)) ⟨n, h⟩
  have h2 : (BitVec.ofNat 32 (n * 2 ^ 23)).extractLsb' 31 1 = 0#1 :=
    (by decide +kernel : ∀ n : Fin 256, (BitVec.ofNat 32 (n.val * 2 ^ 23)).extractLsb' 31 1 = 0#1) ⟨n, h⟩
  have h3 : ((BitVec.ofNat 32 (n * 2 ^ 23)).extractLsb' 23 8).toNat = n :=
    (by decide +kernel : ∀ n : Fin 256, ((BitVec.ofNat 32 (n.val * 2 ^ 23)).extractLsb' 23 8).toNat = n.val) ⟨n, h⟩
  have h4 : ((BitVec.ofNat 32 (n * 2 ^ 23)).extractLsb' 0 23).toNat = 0 :=
    (by decide +kernel : ∀ n : Fin 256, ((BitVec.ofNat 32 (n.val * 2 ^ 23)).extractLsb' 0 23).toNat = 0) ⟨n, h⟩
  unfold edge E
  rw [h1]
  show Ideal.ieee 8 23 (BitVec.ofNat 32 (n * 2 ^ 23)) = _
  unfold Ideal.ieee
  simp only [show (8 + 23 : ℕ) = 31 from rfl, h2, h3, h4]
  rcases Nat.eq_zero_or_pos n with rfl | hp
  · simp
  · by_cases h255 : n < 255
    · have g1 : ¬ n = 0 := by omega
      have g2 : ¬ n = 2 ^ 8 - 1 := by norm_num; omega
      rw [if_neg g2, if_neg g1, if_neg g1, if_pos h255]
      congr 1
      have : ((2 : ℝ) ^ ((n : ℤ) - 127)) = 2 ^ (23 : ℤ) * 2 ^ ((n : ℤ) - 127 - 23) := by
        rw [← zpow_add₀ (by norm_num)]; congr 1; ring
      rw [this]; norm_num
    · have : n = 255 := by omega
      subst this; simp

/-- A larger exponent field is a larger number. -/
theorem E_mono {n k : ℕ} (h : n ≤ k) : E n ≤ E k := by
  unfold E
  split_ifs <;> first | exact le_refl _ | exact le_top | omega | skip
  · exact EReal.coe_nonneg.mpr (by positivity)
  · exact EReal.coe_le_coe_iff.mpr (zpow_le_zpow_right₀ (by norm_num) (by omega))

/-- One trial of the search: add `b` to the field unless the float it then makes exceeds `q`. -/
def step (q : EReal) (b e : BitVec 32) : BitVec 32 := if q < edge (IntOp.addi e b) then e else IntOp.addi e b

/-- The exponent field of `q`, by eight trials. -/
def field (q : EReal) : BitVec 32 :=
  step q 1#32 <| step q 2#32 <| step q 4#32 <| step q 8#32 <| step q 16#32 <| step q 32#32 <| step q 64#32 <| step q 128#32 0#32

/-- One step of the search halves the interval of exponent fields that holds the answer. -/
theorem step_spec (q : EReal) (b n : ℕ) (h : n + 2 * b ≤ 256) (hb : 0 < b) (h0 : E n ≤ q) (h1 : q < E (n + 2 * b)) :
    ∃ k : ℕ, step q (BitVec.ofNat 32 b) (BitVec.ofNat 32 n) = BitVec.ofNat 32 k ∧ k + b ≤ 256 ∧ E k ≤ q ∧ q < E (k + b) := by
  have ha : IntOp.addi (BitVec.ofNat 32 n) (BitVec.ofNat 32 b) = BitVec.ofNat 32 (n + b) := by
    show BitVec.ofNat 32 n + BitVec.ofNat 32 b = _
    rw [BitVec.ofNat_add]
  unfold step
  rw [ha, edge_ofNat _ (by omega)]
  by_cases hq : q < E (n + b)
  · rw [if_pos hq]; exact ⟨n, rfl, by omega, h0, hq⟩
  · rw [if_neg hq]; exact ⟨n + b, rfl, by omega, not_lt.mp hq, by rwa [show n + b + b = n + 2 * b by ring]⟩

/-- The search finds the binade of `q`. -/
theorem field_spec (q : EReal) (h0 : 0 ≤ q) (h1 : q < ⊤) :
    ∃ n : ℕ, field q = BitVec.ofNat 32 n ∧ n < 256 ∧ E n ≤ q ∧ q < E (n + 1) := by
  obtain ⟨a, ea, la, ha, ha'⟩ := step_spec q 128 0 (by norm_num) (by norm_num) (by simpa [E] using h0) (by simpa [E] using h1)
  obtain ⟨b, eb, lb, hb, hb'⟩ := step_spec q 64 a (by omega) (by norm_num) ha (by simpa using ha')
  obtain ⟨c, ec, lc, hc, hc'⟩ := step_spec q 32 b (by omega) (by norm_num) hb (by simpa using hb')
  obtain ⟨d, ed, ld, hd, hd'⟩ := step_spec q 16 c (by omega) (by norm_num) hc (by simpa using hc')
  obtain ⟨e, ee, le, he, he'⟩ := step_spec q 8 d (by omega) (by norm_num) hd (by simpa using hd')
  obtain ⟨f, ef, lf, hf, hf'⟩ := step_spec q 4 e (by omega) (by norm_num) he (by simpa using he')
  obtain ⟨g, eg, lg, hg, hg'⟩ := step_spec q 2 f (by omega) (by norm_num) hf (by simpa using hf')
  obtain ⟨n, en, ln, hn, hn'⟩ := step_spec q 1 g (by omega) (by norm_num) hg (by simpa using hg')
  refine ⟨n, ?_, by omega, hn, hn'⟩
  unfold field
  rw [show (0#32) = BitVec.ofNat 32 0 from rfl, ea, eb, ec, ed, ee, ef, eg, en]

/-- The exponent the kernel takes: the field less 126, and zero for zero. -/
def expo (q : EReal) : BitVec 32 := if q = 0 then 0#32 else IntOp.subi (field q) 126#32

/-- The factor by which the row's peak is divided by 448. -/
def recip448 : EReal := Ideal.ofBits .f32 0x3B124925#32

/-- The f32 nearest to 1/448, as a real number. -/
theorem recip448_eq : recip448 = ((9586981 * (2 : ℝ) ^ (-32 : ℤ) : ℝ) : EReal) := by
  unfold recip448
  simp [Ideal.ofBits, Ideal.ieee, -EReal.coe_mul, -EReal.coe_neg]

/-- The greatest finite value of the row's format. -/
def bound : EReal := Ideal.ofBits .bf16 0x7F7F#16

/-- The largest finite bf16 number, as a real number. -/
theorem bound_eq : bound = ((255 * (2 : ℝ) ^ (120 : ℤ) : ℝ) : EReal) := by
  unfold bound
  simp [Ideal.ofBits, Ideal.ieee, -EReal.coe_mul, -EReal.coe_neg]

/-- The reference's scale of a row with peak `a`: 1 for a row of zeros, else the least power of two above `a / 448`. -/
def scale (a : EReal) : EReal :=
  if a = 0 then 1 else (Finset.univ : Finset (Fin 254)).fold min ⊤ fun j => if a * recip448 < E (j.val + 1) then E (j.val + 1) else ⊤

/-- A row's quotient, its binade and its scale. -/
theorem binade (a : EReal) (h0 : 0 ≤ a) (h1 : a ≤ bound) (hne : a ≠ 0) :
    a * recip448 ≠ 0 ∧ ∃ n : ℕ, n < 247 ∧ field (a * recip448) = BitVec.ofNat 32 n ∧ scale a = E (n + 1) := by
  obtain ⟨r, rfl⟩ : ∃ r : ℝ, a = (r : EReal) := by
    rw [bound_eq] at h1
    induction a using EReal.rec with
    | bot => exact absurd h0 (by simp)
    | top => exact absurd h1 (not_le.mpr (EReal.coe_lt_top _))
    | coe r => exact ⟨r, rfl⟩
  rw [bound_eq, EReal.coe_le_coe_iff] at h1
  rw [EReal.coe_nonneg] at h0
  have hr : r ≠ 0 := fun h => hne (by rw [h]; rfl)
  have hr' : 0 < r := lt_of_le_of_ne h0 (Ne.symm hr)
  have hq : (r : EReal) * recip448 = ((r * (9586981 * (2 : ℝ) ^ (-32 : ℤ)) : ℝ) : EReal) := by rw [recip448_eq, ← EReal.coe_mul]
  have hpos : 0 < r * (9586981 * (2 : ℝ) ^ (-32 : ℤ)) := by positivity
  have hlt : r * (9586981 * (2 : ℝ) ^ (-32 : ℤ)) < (2 : ℝ) ^ (120 : ℤ) := by
    calc r * (9586981 * (2 : ℝ) ^ (-32 : ℤ)) ≤ 255 * (2 : ℝ) ^ (120 : ℤ) * (9586981 * (2 : ℝ) ^ (-32 : ℤ)) := by
          apply mul_le_mul_of_nonneg_right h1; positivity
      _ < (2 : ℝ) ^ (120 : ℤ) := by norm_num
  refine ⟨?_, ?_⟩
  · rw [hq]; exact fun h => hpos.ne' (EReal.coe_eq_zero.mp h)
  obtain ⟨n, en, _, hn, hn'⟩ := field_spec ((r : EReal) * recip448) (by rw [hq]; exact EReal.coe_nonneg.mpr hpos.le) (by rw [hq]; exact EReal.coe_lt_top _)
  have hn247 : n < 247 := by
    by_contra h
    have h2 : E 247 ≤ E n := E_mono (by omega)
    have h3 := lt_of_le_of_lt (h2.trans hn) (by rw [hq]; exact EReal.coe_lt_coe_iff.mpr hlt)
    exact lt_irrefl _ (lt_of_lt_of_eq h3 (by unfold E; norm_num))
  refine ⟨n, hn247, en, ?_⟩
  unfold scale
  rw [if_neg hne]
  apply le_antisymm
  · refine (Finset.fold_min_le _).mpr (.inr ⟨⟨n, by omega⟩, Finset.mem_univ _, ?_⟩)
    rw [if_pos hn']
  · refine (Finset.le_fold_min _).mpr ⟨le_top, fun j _ => ?_⟩
    split_ifs with h
    · refine E_mono ?_
      by_contra hj
      exact absurd (lt_of_lt_of_le h ((E_mono (show j.val + 1 ≤ n by omega)).trans hn)) (lt_irrefl _)
    · exact le_top

/-- The kernel's scale of a row is the reference's; -/
theorem edge_scale (a : EReal) (h0 : 0 ≤ a) (h1 : a ≤ bound) : edge (IntOp.addi 127#32 (expo (a * recip448))) = scale a := by
  by_cases hne : a = 0
  · subst hne
    rw [zero_mul]
    unfold expo scale
    rw [if_pos rfl, if_pos rfl]
    exact (edge_ofNat 127 (by norm_num)).trans (by unfold E; norm_num)
  · obtain ⟨hq, n, hn, en, es⟩ := binade a h0 h1 hne
    unfold expo
    rw [if_neg hq, en, es, (by decide +kernel : ∀ n : Fin 256, IntOp.addi 127#32 (IntOp.subi (BitVec.ofNat 32 n.val) 126#32) = BitVec.ofNat 32 (n.val + 1)) ⟨n, by omega⟩]
    exact edge_ofNat (n + 1) (by omega)

/-- and the factor by which it multiplies the row is the reciprocal. -/
theorem edge_inverse (a : EReal) (h0 : 0 ≤ a) (h1 : a ≤ bound) : edge (IntOp.subi 127#32 (expo (a * recip448))) = Ideal.div 1 (scale a) := by
  by_cases hne : a = 0
  · subst hne
    rw [zero_mul]
    unfold expo scale
    rw [if_pos rfl, if_pos rfl]
    refine (edge_ofNat 127 (by norm_num)).trans ?_
    unfold E Ideal.div
    norm_num
  · obtain ⟨hq, n, hn, en, es⟩ := binade a h0 h1 hne
    unfold expo
    rw [if_neg hq, en, es, (by decide +kernel : ∀ n : Fin 247, IntOp.subi 127#32 (IntOp.subi (BitVec.ofNat 32 n.val) 126#32) = BitVec.ofNat 32 (253 - n.val)) ⟨n, by omega⟩]
    refine (edge_ofNat _ (by show 253 - n < 256; omega)).trans ?_
    have e1 : E (253 - n) = (((2 : ℝ) ^ ((126 : ℤ) - n) : ℝ) : EReal) := by
      unfold E
      rw [if_neg (by omega), if_pos (by omega)]
      congr 2
      push_cast [show n ≤ 253 by omega]; ring
    have e2 : E (n + 1) = (((2 : ℝ) ^ (-((126 : ℤ) - n)) : ℝ) : EReal) := by
      unfold E
      rw [if_neg (by omega), if_pos (by omega)]
      congr 2
      push_cast; ring
    show E (253 - n) = _
    rw [e1, e2]
    unfold Ideal.div
    rw [if_neg (fun h => (zpow_ne_zero _ (by norm_num : (2 : ℝ) ≠ 0)) (EReal.coe_eq_zero.mp h)), one_mul, ← EReal.coe_inv, zpow_neg, inv_inv]

/-- The peak of a row of `N` elements: the greatest absolute value. -/
def peak {N : ℕ} (x : Fin N → EReal) : EReal := (Finset.univ : Finset (Fin N)).fold max ⊥ fun k => max (x k) (-x k)

/-- A row has a peak that is not negative, -/
theorem peak_nonneg {N : ℕ} (x : Fin N → EReal) (k : Fin N) : 0 ≤ peak x := by
  refine (Finset.le_fold_max _).mpr (.inr ⟨k, Finset.mem_univ _, ?_⟩)
  rcases le_total 0 (x k) with h | h
  · exact le_max_of_le_left h
  · exact le_max_of_le_right (EReal.neg_nonneg.mpr h)

/-- and a row of finite elements a finite one. -/
theorem peak_le {N : ℕ} (x : Fin N → EReal) (h : ∀ k, max (x k) (-x k) ≤ bound) : peak x ≤ bound :=
  (Finset.fold_max_le _).mpr ⟨bot_le, fun k _ => h k⟩

/-- A row's codes: scaled, then clipped to the range of the codes' format. -/
def code (a v : EReal) : EReal := min (Ideal.ofBits .f32 0x43E00000#32) (max (Ideal.ofBits .f32 0xC3E00000#32) (v * Ideal.div 1 (scale a)))

end Cert.Scale
-- ==== Proof.KEval.lean ====
/- What the kernel's vectors are at an index: the scales, the codes and the product of a tile. -/
module

public import proofs.«01_k».proof.Proof.KDecode
public import proofs.«01_k».proof.Proof.Scale

@[expose] public section

noncomputable section

namespace Cert.KernelIdeal.Run

open Idealize.ShloMosaic Idealize.ShloMosaic.TcCoe
open Cert.KernelIdeal Cert.KernelIdeal.Gen

/-- The cast of a tile to its own shape changes nothing. -/
theorem pay340 (x : Vec Ideal S512x5120 .bf16) : k0_pay340 (F := Ideal) x = x := by
  unfold k0_pay340
  exact shapeCast_self _ _

/-- One trial of the search, on the tile's rows. -/
def stepV (q : FVec Ideal S512x1 .f32) (b : BitVec 32) (e : IVec S512x1 32) : IVec S512x1 32 :=
  select (cmpf .olt q (bitcastToFloat .f32 (shli (addi e (broadcast S512x1 b)) (broadcast S512x1 23#32)))) e (addi e (broadcast S512x1 b))

/-- At a row it is the trial of that row's quotient. -/
theorem stepV_at (q : FVec Ideal S512x1 .f32) (b : BitVec 32) (e : IVec S512x1 32) (r : Fin 512) :
    stepV q b e (ix2 r 0) = Scale.step (q (ix2 r 0)) b (e (ix2 r 0)) := by
  refine Eq.trans (b := if q (ix2 r 0) < Ideal.ofBits FTy.f32 (IntOp.shli ArithUnit.vector (IntOp.addi (e (ix2 r 0)) b) 23#32) then e (ix2 r 0) else IntOp.addi (e (ix2 r 0)) b) ?_ ?_
  · pointwise [stepV]
  · unfold Scale.step Scale.edge
    split_ifs <;> rfl

/-- The exponents are what eight trials leave. -/
theorem exp_steps (x : Vec Ideal S512x5120 .bf16) : expOf (F := Ideal) x
    = select (cmpf .oeq (k0_pay341 x) (broadcast S512x1 (Scalar.ofBits .f32 0x00000000#32))) (broadcast S512x1 0#32)
        (subi (stepV (k0_pay341 x) 1#32 <| stepV (k0_pay341 x) 2#32 <| stepV (k0_pay341 x) 4#32 <| stepV (k0_pay341 x) 8#32 <| stepV (k0_pay341 x) 16#32 <|
          stepV (k0_pay341 x) 32#32 <| stepV (k0_pay341 x) 64#32 <| stepV (k0_pay341 x) 128#32 (broadcast S512x1 0#32)) (broadcast S512x1 126#32)) := rfl

/-- A row whose quotient is zero has exponent zero, any other its field less 126. -/
theorem exp_select (q c : FVec Ideal S512x1 .f32) (e : IVec S512x1 32) (r : Fin 512) :
    select (cmpf .oeq q c) (broadcast S512x1 0#32) (subi e (broadcast S512x1 126#32)) (ix2 r 0)
      = if q (ix2 r 0) = c (ix2 r 0) then 0#32 else IntOp.subi (e (ix2 r 0)) 126#32 := by
  pointwise

/-- The greatest of a row. -/
theorem max_at (x : FVec Ideal S512x5120 .bf16) (r : Fin 512) :
    multiReduction (F := Ideal) .maximumf [1] S512 x 0xFF80#16 reduces_S512x5120_S512 (.inr rfl) rfl (ix1 r)
      = Finset.univ.fold max (Ideal.ofBits .bf16 0xFF80#16) (fun k => x (ix2 r k)) := by
  pointwise

/-- The greatest of a row, scaled. -/
theorem mul_at (v : FVec Ideal S512 .bf16) (r : Fin 512) :
    mulf (extf .f32 (shapeCast S512x1 v shapeCasts_S512_S512x1) bitsLt_bf16_f32) (broadcast S512x1 (FloatOps.ofBits (F := Ideal) FTy.f32 0x3B124925#32)) (ix2 r (0 : Fin 1))
      = v (ix1 r) * Ideal.ofBits FTy.f32 0x3B124925#32 := by
  pointwise

/-- The peak of row `r` of a tile. -/
abbrev peakOf (x : Vec Ideal S512x5120 .bf16) (r : Fin 512) : EReal := Scale.peak fun k => x (ix2 r k)

/-- A row's quotient is its peak times the constant. -/
theorem quot_at (x : Vec Ideal S512x5120 .bf16) (r : Fin 512) : k0_pay341 (F := Ideal) x (ix2 r 0) = peakOf x r * Scale.recip448 := by
  unfold k0_pay341
  rw [pay340]
  refine (mul_at _ r).trans ?_
  rw [max_at]
  have : Ideal.ofBits .bf16 0xFF80#16 = (⊥ : EReal) := by simp [Ideal.ofBits, Ideal.ieee]
  rw [this]
  rfl

/-- The exponent of a row. -/
theorem exp_at (x : Vec Ideal S512x5120 .bf16) (r : Fin 512) : expOf (F := Ideal) x (ix2 r 0) = Scale.expo (peakOf x r * Scale.recip448) := by
  rw [exp_steps, exp_select]
  simp only [stepV_at, quot_at]
  have : (broadcast S512x1 (Scalar.ofBits (F := Ideal) .f32 0x00000000#32)) (ix2 r 0) = (0 : EReal) := by
    show Ideal.ofBits .f32 0x00000000#32 = 0
    simp [Ideal.ofBits, Ideal.ieee]
  rw [this]
  unfold Scale.expo Scale.field
  split_ifs <;> rfl

/-- The scale of a row is the power of two whose exponent field is 127 plus the row's exponent. -/
theorem pay346_at (e : IVec S512x1 32) (r : Fin 512) : k0_pay346 (F := Ideal) e 127#32 (ix2 r 0) = Scale.edge (IntOp.addi 127#32 (e (ix2 r 0))) := by
  refine Eq.trans (b := Ideal.ofBits FTy.f32 (IntOp.shli ArithUnit.vector (IntOp.addi (127#32) (e (ix2 r 0))) 23#32)) ?_ rfl
  pointwise [k0_pay346]

/-- The code of an entry: the entry times the inverse power of two, clipped to the e4m3 range. -/
theorem pay347_at (x : FVec Ideal S512x5120 .bf16) (e : IVec S512x1 32) (r : Fin 512) (l : Fin 5120) : k0_pay347 (F := Ideal) x e (ix2 r l)
    = min (Ideal.ofBits FTy.f32 0x43E00000#32) (max (Ideal.ofBits FTy.f32 0xC3E00000#32) (x (ix2 r l) * Scale.edge (IntOp.subi 127#32 (e (ix2 r 0))))) := by
  refine Eq.trans (b := min (Ideal.ofBits FTy.f32 1138753536#32) (max (Ideal.ofBits FTy.f32 3286237184#32) (x (ix2 r l) * Ideal.ofBits FTy.f32 (IntOp.shli ArithUnit.vector (IntOp.subi (127#32) (e (ix2 r 0))) 23#32)))) ?_ rfl
  pointwise [k0_pay347]

/-- A tile's elements are finite. -/
def Tame (x : Vec Ideal S512x5120 .bf16) : Prop := ∀ r l, max (x (ix2 r l)) (-x (ix2 r l)) ≤ Scale.bound

/-- The scale of a row of a finite tile. -/
theorem scale_at (x : Vec Ideal S512x5120 .bf16) (hx : Tame x) (r : Fin 512) : scaleOf (F := Ideal) x (ix2 r 0) = Scale.scale (peakOf x r) := by
  unfold scaleOf
  rw [pay346_at, exp_at]
  exact Scale.edge_scale _ (Scale.peak_nonneg _ 0) (Scale.peak_le _ (hx r))

/-- Its codes. -/
theorem code_at (x : Vec Ideal S512x5120 .bf16) (hx : Tame x) (r : Fin 512) (l : Fin 5120) : codesOf (F := Ideal) x (ix2 r l) = Scale.code (peakOf x r) (x (ix2 r l)) := by
  unfold codesOf Scale.code
  rw [pay347_at, exp_at, pay340, Scale.edge_inverse _ (Scale.peak_nonneg _ 0) (Scale.peak_le _ (hx r))]

/-- The slots of the ring hold the same. -/
theorem slotX_at (x : Vec Ideal S512x5120 .bf16) (r : Fin 512) (l : Fin 5120) : slotX (F := Ideal) x (ix3 0 r l) = codesOf (F := Ideal) x (ix2 r l) := by
  unfold slotX codesOf
  pointwise [k0_pay349]

/-- The scale kept for the next step is the scale written out. -/
theorem slotS_at (x : Vec Ideal S512x5120 .bf16) (r : Fin 512) : slotS (F := Ideal) x (ix3 0 r 0) = scaleOf (F := Ideal) x (ix2 r 0) := by
  unfold slotS scaleOf
  pointwise [k0_pay348]

/-- One entry of the product step: the dot product of a row of codes and a row of weights, times the row's scale and the global scale. -/
theorem mul_rows (xb : Vec Ideal S1x512x5120 .bf16) (W : Vec Ideal S1792x5120 .bf16) (s : Vec Ideal S1x512x1 .f32) (g : EReal) (r : Fin 512) (l : Fin 1792) :
    k0_pay4 (F := Ideal) (k0_pay350 xb W) s g (ix2 r l) = (∑ k, xb (ix3 0 r k) * W (ix2 l k)) * (s (ix3 0 r 0) * g) := by
  pointwise [k0_pay4, k0_pay350]

/-- The product of a tile. -/
theorem prod_at (g : Vec Ideal S1 .f32) (W : Vec Ideal S1792x5120 .bf16) (x : Vec Ideal S512x5120 .bf16) (hx : Tame x) (r : Fin 512) (l : Fin 1792) :
    prodOf (F := Ideal) g W (slotX x) (slotS x) (ix2 r l)
      = (∑ k, Scale.code (peakOf x r) (x (ix2 r k)) * W (ix2 l k)) * (Scale.scale (peakOf x r) * g (ix1 0)) := by
  have hg : (g fun a => ⟨0, by fin_cases a; decide⟩) = g (ix1 0) := congrArg g (funext fun a => match a with | ⟨0, _⟩ => rfl)
  unfold prodOf
  rw [hg]
  refine (mul_rows _ _ _ _ r l).trans ?_
  rw [slotS_at, scale_at x hx]
  simp only [slotX_at, code_at x hx]

end Cert.KernelIdeal.Run
-- ==== Proof.Result.lean ====
/- The three results as functions of the four arguments: what both programs are shown to leave. -/
module

public import proofs.«01_k».proof.Proof.KDecode
public import proofs.«01_k».proof.Proof.Scale

@[expose] public section

noncomputable section

namespace Cert.Result

open Idealize.ShloMosaic Idealize.ShloMosaic.TcCoe
open Cert.KernelIdeal Cert.KernelIdeal.Gen

/-- The largest magnitude of a row. -/
def peakAt (X : Vec Ideal S12288x5120 .bf16) (r : Fin 12288) : EReal := Scale.peak fun k => X (ix2 r k)

/-- A row's scale. -/
def scale (X : Vec Ideal S12288x5120 .bf16) : Vec Ideal S12288x1 .f32 := fun y => Scale.scale (peakAt X ⟨(y 0).val, (y 0).isLt⟩)

/-- The codes: each element over its row's scale, held within the range of the format. -/
def codes (X : Vec Ideal S12288x5120 .bf16) : Vec Ideal S12288x5120 .fp8e4m3 := fun y => Scale.code (peakAt X ⟨(y 0).val, (y 0).isLt⟩) (X y)

/-- The product of the codes with the decoded weights, under the row's scale and the global one. -/
def prod (X : Vec Ideal S12288x5120 .bf16) (P : Vec Ideal S896x5120 .i8) (S : Vec Ideal S1792x320 .fp8e4m3) (g : EReal) : Vec Ideal S12288x1792 .bf16 := fun y =>
  (∑ k : Fin 5120, Scale.code (peakAt X ⟨(y 0).val, (y 0).isLt⟩) (X (ix2 (⟨(y 0).val, (y 0).isLt⟩ : Fin 12288) k)) * Run.Wdec P S (ix2 (⟨(y 1).val, (y 1).isLt⟩ : Fin 1792) k))
    * (Scale.scale (peakAt X ⟨(y 0).val, (y 0).isLt⟩) * g)

/-- The product at a row and column. -/
theorem prod_at (X : Vec Ideal S12288x5120 .bf16) (P : Vec Ideal S896x5120 .i8) (S : Vec Ideal S1792x320 .fp8e4m3) (g : EReal) (r : Fin 12288) (l : Fin 1792) :
    prod X P S g (ix2 r l) = (∑ k : Fin 5120, Scale.code (peakAt X r) (X (ix2 r k)) * Run.Wdec P S (ix2 l k)) * (Scale.scale (peakAt X r) * g) := rfl

/-- A code at a row and column. -/
theorem codes_at (X : Vec Ideal S12288x5120 .bf16) (r : Fin 12288) (l : Fin 5120) : codes X (ix2 r l) = Scale.code (peakAt X r) (X (ix2 r l)) := rfl

/-- A scale at a row. -/
theorem scale_at (X : Vec Ideal S12288x5120 .bf16) (r : Fin 12288) : scale X (ix2 r 0) = Scale.scale (peakAt X r) := rfl

end Cert.Result
-- ==== Proof.KFinal.lean ====
/- The kernel's three result arrays, as functions of its arguments. -/
module

public import proofs.«01_k».proof.Proof.KEval
public import proofs.«01_k».proof.Proof.Result
public import Idealize.ShloMosaic.Lib.StableHlo.RunRead
public import Idealize.ShloMosaic.Lib.Pipeline.ValueKit.Geometry

@[expose] public section

noncomputable section

namespace Cert.KernelIdeal.Run

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The rows of the argument `x`. -/
abbrev rows (c : Dev nD) : Vec Ideal S12288x5120 .bf16 := shapeCast S12288x5120 (m ((c : Thread nD τ).loc main_arg0)) shapeCasts_S2x6144x5120_S12288x5120

/-- The global scale. -/
abbrev glob (c : Dev nD) : Vec Ideal S1 .f32 := shapeCast S1 (m ((c : Thread nD τ).loc main_arg3)) shapeCasts_S_S1

/-- The rows of `x`, as the kernel reads them. -/
theorem V_v1 (c : Dev nD) : V m c main_v1 = rows m c := by
  show StableHlo.after hostOps0 _ _ = _
  after_reads_simp
  rfl

/-- The global scale, as the kernel reads it. -/
theorem V_v0 (c : Dev nD) : V m c main_v0 = glob m c := by
  show StableHlo.after hostOps0 _ _ = _
  after_reads_simp
  rfl

/-- The block indices of the windows at a point: the input tile is the point's, the last tile's at the last point, and the product written there is the tile before. -/
theorem at0 : ∀ t : Fin cfg0.N, win0_0.index t = ![0] := (by decide +kernel : ∀ t : Fin grid0.N, _)
/-- The activation block of a step: its own row block, the last one repeated at the final step. -/
theorem at1 : ∀ t : Fin cfg0.N, win0_1.index t = ![min t.val 23, 0] := (by decide +kernel : ∀ t : Fin grid0.N, _)
/-- The packed weights are one block. -/
theorem at2 : ∀ t : Fin cfg0.N, win0_2.index t = ![0, 0] := (by decide +kernel : ∀ t : Fin grid0.N, _)
/-- The block scales are one block. -/
theorem at3 : ∀ t : Fin cfg0.N, win0_3.index t = ![0, 0] := (by decide +kernel : ∀ t : Fin grid0.N, _)
/-- The product block of a step is the row block before it. -/
theorem at4 : ∀ t : Fin cfg0.N, win0_4.index t = ![t.val - 1, 0] := (by decide +kernel : ∀ t : Fin grid0.N, _)
/-- The code block of a step: its own row block, the last one repeated at the final step. -/
theorem at5 : ∀ t : Fin cfg0.N, win0_5.index t = ![min t.val 23, 0] := (by decide +kernel : ∀ t : Fin grid0.N, _)
/-- The scale block of a step: its own row block, the last one repeated at the final step. -/
theorem at6 : ∀ t : Fin cfg0.N, win0_6.index t = ![min t.val 23, 0] := (by decide +kernel : ∀ t : Fin grid0.N, _)

/-- The product is written back at every point but the first. -/
theorem flush4 : ∀ t : Fin cfg0.N, (cfg0.win 4).flush t = true → 0 < t.val := (by decide +kernel : ∀ t : Fin grid0.N, win0_4.flush t = true → 0 < t.val)

/-- The global scale's block at a point is all of it. -/
theorem blk_g (c : Dev nD) (t : Fin cfg0.N) : iblk m c 0 t = glob m c := by
  refine Eq.trans ?_ (V_v0 m c)
  funext y
  show V m c main_v0 (((cfg0.win 0).blk t).view.emb y) = V m c main_v0 y
  refine congrArg (V m c main_v0) ?_
  blk_ext [at0]

/-- The packed weights' block is all of them. -/
theorem blk_p (c : Dev nD) (t : Fin cfg0.N) : iblk m c 2 t = m ((c : Thread nD τ).loc main_arg1) := by
  refine Eq.trans ?_ (V_main_arg1 m c)
  funext y
  show V m c main_arg1 (((cfg0.win 2).blk t).view.emb y) = V m c main_arg1 y
  refine congrArg (V m c main_arg1) ?_
  blk_ext [at2]

/-- The weights' scales' block is all of them. -/
theorem blk_s (c : Dev nD) (t : Fin cfg0.N) : iblk m c 3 t = m ((c : Thread nD τ).loc main_arg2) := by
  refine Eq.trans ?_ (V_main_arg2 m c)
  funext y
  show V m c main_arg2 (((cfg0.win 3).blk t).view.emb y) = V m c main_arg2 y
  refine congrArg (V m c main_arg2) ?_
  blk_ext [at3]

/-- Row `r` of the tile read at point `t`, among all rows. -/
def rowAt (t : Fin cfg0.N) (r : Fin 512) : Fin 12288 := ⟨min t.val 23 * 512 + r.val, by omega⟩

/-- An element of the tile read at a point. -/
theorem blk_x (c : Dev nD) (t : Fin cfg0.N) (r : Fin 512) (l : Fin 5120) : iblk m c 1 t (ix2 r l) = rows m c (ix2 (rowAt t r) l) := by
  refine Eq.trans ?_ (congrFun (V_v1 m c) _)
  show V m c main_v1 (((cfg0.win 1).blk t).view.emb (ix2 r l)) = V m c main_v1 _
  refine congrArg (V m c main_v1) ?_
  unfold rowAt
  blk_ext [at1]

/-- The largest magnitude of a row of the tile. -/
theorem peak_x (c : Dev nD) (t : Fin cfg0.N) (r : Fin 512) : peakOf (iblk m c 1 t) r = Cert.Result.peakAt (rows m c) (rowAt t r) := by
  unfold peakOf Cert.Result.peakAt
  simp only [blk_x]

/-- The tile's elements are within the format's range when all are. -/
theorem tame_x (c : Dev nD) (hx : ∀ i, max (rows m c i) (-rows m c i) ≤ Scale.bound) (t : Fin cfg0.N) : Tame (iblk m c 1 t) := by
  intro r l
  rw [blk_x]; exact hx _

/-- Every index of a matrix is a row and a column. -/
theorem ix_eq {a b : ℕ} (y : (⟨2, ![a, b]⟩ : Shape).Idx) : y = ix2 (⟨(y 0).val, (y 0).isLt⟩ : Fin a) (⟨(y 1).val, (y 1).isLt⟩ : Fin b) := by
  funext i; fin_cases i <;> rfl

/-- Every index of a column is a row. -/
theorem ix_eq1 {a : ℕ} (y : (⟨2, ![a, 1]⟩ : Shape).Idx) : y = ix2 (⟨(y 0).val, (y 0).isLt⟩ : Fin a) (0 : Fin 1) := by
  funext i
  fin_cases i
  · rfl
  · exact Subsingleton.elim (α := Fin 1) _ _

/-- What a point leaves of the scales: those of its rows. -/
theorem after_s (c : Dev nD) (hx : ∀ i, max (rows m c i) (-rows m c i) ≤ Scale.bound) (t : Fin cfg0.N) (r : Fin 512) :
    (dats Wdec m 0 c).after 6 t (ix2 r 0) = Cert.Result.scale (rows m c) (ix2 (rowAt t r) 0) := by
  refine (congrFun (after0_6 Wdec m c t) _).trans ?_
  refine (scale_at _ (tame_x m c hx t) r).trans ?_
  rw [peak_x, Cert.Result.scale_at]

/-- What a point leaves of the codes: those of its rows. -/
theorem after_c (c : Dev nD) (hx : ∀ i, max (rows m c i) (-rows m c i) ≤ Scale.bound) (t : Fin cfg0.N) (r : Fin 512) (l : Fin 5120) :
    (dats Wdec m 0 c).after 5 t (ix2 r l) = Cert.Result.codes (rows m c) (ix2 (rowAt t r) l) := by
  refine (congrFun (after0_5 Wdec m c t) _).trans ?_
  refine (code_at _ (tame_x m c hx t) r l).trans ?_
  rw [peak_x, blk_x, Cert.Result.codes_at]

/-- The decoded weights are those of the whole arrays. -/
theorem wAll_eq (c : Dev nD) : wAll Wdec m c = Wdec (m ((c : Thread nD τ).loc main_arg1)) (m ((c : Thread nD τ).loc main_arg2)) := by
  unfold wAll
  rw [blk_p, blk_s]

/-- What a point leaves of the product: that of the rows of the point before. -/
theorem after_y (c : Dev nD) (hx : ∀ i, max (rows m c i) (-rows m c i) ≤ Scale.bound) (t : Fin cfg0.N) (r : Fin 512) (l : Fin 1792) :
    (dats Wdec m 0 c).after 4 t (ix2 r l)
      = Cert.Result.prod (rows m c) (m ((c : Thread nD τ).loc main_arg1)) (m ((c : Thread nD τ).loc main_arg2)) (glob m c (ix1 0)) (ix2 (rowAt (prevPt t) r) l) := by
  refine (congrFun (after0_4 Wdec m c t) _).trans ?_
  unfold prodAt
  rw [wAll_eq, blk_g]
  refine (prod_at _ _ _ (tame_x m c hx (prevPt t)) r l).trans ?_
  rw [peak_x, Cert.Result.prod_at]
  simp only [blk_x]

/-- The blocks of the scales written back cover their array. -/
theorem cover6 : (cfg0.win 6).Covers := by decide +kernel

/-- Where a row of a point's block of the scales lies in the array. -/
theorem place6 (t : Fin cfg0.N) (y : S512x1.Idx) (r : Fin 512) (hr : r.val = (y 0).val) :
    (((cfg0.win 6).blk t).view.emb y : S12288x1.Idx) = ix2 (rowAt t r) 0 := by
  refine (ix_eq1 (a := 12288) _).trans (congrArg (fun z => ix2 z (0 : Fin 1)) (Fin.ext ?_))
  show ((((cfg0.win 6).blk t).view.emb y 0 : Fin _) : ℕ) = min t.val 23 * 512 + r.val
  rw [hr]
  blk_simp [at6]

/-- The array of scales ends holding the rows' scales. -/
theorem final_s (c : Dev nD) (hx : ∀ i, max (rows m c i) (-rows m c i) ≤ Scale.bound) : (dats Wdec m 0 c).arrAt 6 cfg0.N = Cert.Result.scale (rows m c) := by
  refine (dats Wdec m 0 c).arrAt_eq_of_covers 6 _ cover6 fun t hf y => ?_
  have hA := after_s m c hx t
  rw [cast_eq]
  generalize (dats Wdec m 0 c).after 6 t = A at hA ⊢
  generalize Cert.Result.scale (rows m c) = G at hA ⊢
  refine (congrArg A (ix_eq1 (a := 512) _)).trans ((hA _).trans (congrArg G ?_))
  exact (place6 t y _ rfl).symm

/-- The array of codes ends holding the rows' codes. -/
theorem final_c (c : Dev nD) (hx : ∀ i, max (rows m c i) (-rows m c i) ≤ Scale.bound) : (dats Wdec m 0 c).arrAt 5 cfg0.N = Cert.Result.codes (rows m c) := by
  refine (dats Wdec m 0 c).arrAt_eq_of_covers 5 _ (by decide +kernel) fun t hf y => ?_
  refine (congrArg ((dats Wdec m 0 c).after 5 t) (ix_eq _)).trans ((after_c m c hx t _ _).trans (congrArg (Cert.Result.codes (rows m c)) ?_))
  unfold rowAt
  blk_ext [at5]

/-- The product's array ends holding the product. -/
theorem final_y (c : Dev nD) (hx : ∀ i, max (rows m c i) (-rows m c i) ≤ Scale.bound) : (dats Wdec m 0 c).arrAt 4 cfg0.N
    = Cert.Result.prod (rows m c) (m ((c : Thread nD τ).loc main_arg1)) (m ((c : Thread nD τ).loc main_arg2)) (glob m c (ix1 0)) := by
  refine (dats Wdec m 0 c).arrAt_eq_of_covers 4 _ (by decide +kernel) fun t hf y => ?_
  refine (congrArg ((dats Wdec m 0 c).after 4 t) (ix_eq _)).trans ((after_y m c hx t _ _).trans (congrArg (Cert.Result.prod (rows m c) (m ((c : Thread nD τ).loc main_arg1)) (m ((c : Thread nD τ).loc main_arg2)) (glob m c (ix1 0))) ?_))
  have h0 := flush4 t hf
  have hN : t.val < 25 := t.isLt.trans_eq N_0
  unfold rowAt prevPt
  blk_ext [at4]

/-- The kernel's run: its three arrays at their values, its arguments unchanged. -/
theorem run (hx : ∀ c i, max (rows m c i) (-rows m c i) ≤ Scale.bound) : θ_run defs (onTc (τ := τ) (main (F := Ideal))) ⟨m, fun _ => 0, ρ⟩ fun r => ∀ c : Dev nD,
      (r.2.mem ((c : Thread nD τ).loc main_v2_0) = Cert.Result.prod (rows m c) (m ((c : Thread nD τ).loc main_arg1)) (m ((c : Thread nD τ).loc main_arg2)) (glob m c (ix1 0))
      ∧ r.2.mem ((c : Thread nD τ).loc main_v2_1) = Cert.Result.codes (rows m c)
      ∧ r.2.mem ((c : Thread nD τ).loc main_v2_2) = Cert.Result.scale (rows m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨⟨((h.1 c).1 4).trans (final_y m c (hx c)), ((h.1 c).1 5).trans (final_c m c (hx c)), ((h.1 c).1 6).trans (final_s m c (hx c))⟩, h.2 c⟩)
    (θ_run_and (run_main Wdec m ρ decodes) (unchanged Wdec m ρ decodes))

end Cert.KernelIdeal.Run
-- ==== Proof.REval.lean ====
/- What the reference's vectors are at an index: the scales, the codes and the product. -/
module

public import proofs.«01_k».proof.Proof.Gen.ReferenceIdeal.Value
public import proofs.«01_k».proof.Proof.KDecode
public import proofs.«01_k».proof.Proof.Scale

@[expose] public section

noncomputable section

namespace Cert.ReferenceIdeal.Run

open Idealize.ShloMosaic Idealize.ShloMosaic.TcCoe
open Cert.ReferenceIdeal Cert.ReferenceIdeal.Gen

/-- The magnitudes the reference gives the codes. -/
def magV (v38 : IVec S1792x5120 32) (v40 : IVec S1792x5120 1) (cst_14 : Ideal .f32) (v41 : FVec Ideal S1792x5120 .f32) : FVec Ideal S1792x5120 .f32 :=
  have v42 : FVec Ideal S1792x5120 .f32 := broadcast S1792x5120 cst_14
  have v43 : FVec Ideal S1792x5120 .f32 := select v40 v41 v42
  have v44 : IVec S1792x5120 32 := broadcast S1792x5120 5#32
  have v45 : IVec S1792x5120 1 := cmpi .eq v38 v44
  have cst_15 : Ideal .f32 := Scalar.ofBits (F := Ideal) .f32 0x40400000#32
  have v46 : FVec Ideal S1792x5120 .f32 := broadcast S1792x5120 cst_15
  have v47 : FVec Ideal S1792x5120 .f32 := select v45 v46 v43
  have v48 : IVec S1792x5120 32 := broadcast S1792x5120 4#32
  have v49 : IVec S1792x5120 1 := cmpi .eq v38 v48
  have cst_16 : Ideal .f32 := Scalar.ofBits (F := Ideal) .f32 0x40000000#32
  have v50 : FVec Ideal S1792x5120 .f32 := broadcast S1792x5120 cst_16
  have v51 : FVec Ideal S1792x5120 .f32 := select v49 v50 v47
  have v52 : IVec S1792x5120 32 := broadcast S1792x5120 3#32
  have v53 : IVec S1792x5120 1 := cmpi .eq v38 v52
  have cst_17 : Ideal .f32 := Scalar.ofBits (F := Ideal) .f32 0x3FC00000#32
  have v54 : FVec Ideal S1792x5120 .f32 := broadcast S1792x5120 cst_17
  have v55 : FVec Ideal S1792x5120 .f32 := select v53 v54 v51
  have v56 : IVec S1792x5120 32 := broadcast S1792x5120 2#32
  have v57 : IVec S1792x5120 1 := cmpi .eq v38 v56
  have cst_18 : Ideal .f32 := Scalar.ofBits (F := Ideal) .f32 0x3F800000#32
  have v58 : FVec Ideal S1792x5120 .f32 := broadcast S1792x5120 cst_18
  have v59 : FVec Ideal S1792x5120 .f32 := select v57 v58 v55
  have v60 : IVec S1792x5120 32 := broadcast S1792x5120 1#32
  have v61 : IVec S1792x5120 1 := cmpi .eq v38 v60
  have cst_19 : Ideal .f32 := Scalar.ofBits (F := Ideal) .f32 0x3F000000#32
  have v62 : FVec Ideal S1792x5120 .f32 := broadcast S1792x5120 cst_19
  have v63 : FVec Ideal S1792x5120 .f32 := select v61 v62 v59
  have v64 : IVec S1792x5120 32 := broadcast S1792x5120 0#32
  have v65 : IVec S1792x5120 1 := cmpi .eq v38 v64
  have cst_20 : Ideal .f32 := Scalar.ofBits (F := Ideal) .f32 0x00000000#32
  have v66 : FVec Ideal S1792x5120 .f32 := broadcast S1792x5120 cst_20
  have v67 : FVec Ideal S1792x5120 .f32 := select v65 v66 v63
  v67

/-- The signed values times the scales of their blocks. -/
def weightV (v36 : IVec S1792x5120 32) (v67 : FVec Ideal S1792x5120 .f32) (v74 : Vec Ideal S1792x5120 .fp8e4m3) : FVec Ideal S1792x5120 .bf16 :=
  have v68 : IVec S1792x5120 32 := broadcast S1792x5120 8#32
  have v69 : IVec S1792x5120 1 := cmpi .sge v36 v68
  have cst_21 : Ideal .f32 := Scalar.ofBits (F := Ideal) .f32 0x00000000#32
  have v70 : FVec Ideal S1792x5120 .f32 := broadcast S1792x5120 cst_21
  have v71 : FVec Ideal S1792x5120 .f32 := subf v70 v67
  have v72 : FVec Ideal S1792x5120 .f32 := select v69 v71 v67
  have v73 : FVec Ideal S1792x5120 .bf16 := truncf .bf16 v72 bitsLt_bf16_f32
  have v75 : FVec Ideal S1792x5120 .fp8e4m3 := shapeCast S1792x5120 v74 shapeCasts_S1792x5120_S1792x5120
  have v76 : FVec Ideal S1792x5120 .bf16 := extf .bf16 v75 bitsLt_fp8e4m3_bf16
  have v77 : FVec Ideal S1792x5120 .bf16 := mulf v73 v76
  v77

/-- The powers of two the reference searches. -/
def powersV : FVec Ideal S1x254 .f32 :=
  have v6 : IVec S1x254 32 := iota .tc S1x254 32 [1] iota_S1x254_d1_w32
  have v7 : FVec Ideal S1x254 .f32 := sitofp .f32 v6
  have cst_1 : Ideal .f32 := Scalar.ofBits (F := Ideal) .f32 0x42FC0000#32
  have v8 : FVec Ideal S1x254 .f32 := broadcast S1x254 cst_1
  have v9 : FVec Ideal S1x254 .f32 := subf v7 v8
  have v10 : FVec Ideal S1x254 .f32 := exp2 v9
  v10

/-- Those above a row's quotient, infinity in place of the others. -/
def aboveV (v10 : FVec Ideal S1x254 .f32) (v12 : FVec Ideal S12288x1 .f32) : FVec Ideal S12288x254 .f32 :=
  have v13 : FVec Ideal S12288x254 .f32 := broadcastTo S12288x254 v10 broadcasts_S1x254_S12288x254
  have v14 : FVec Ideal S12288x254 .f32 := broadcastTo S12288x254 v12 broadcasts_S12288x1_S12288x254
  have v15 : IVec S12288x254 1 := cmpf .ogt v13 v14
  have cst_3 : Ideal .f32 := Scalar.ofBits (F := Ideal) .f32 0x7F800000#32
  have v16 : FVec Ideal S1x254 .f32 := shapeCast S1x254 v10 shapeCasts_S1x254_S1x254
  have v17 : FVec Ideal S12288x254 .f32 := broadcastTo S12288x254 v16 broadcasts_S1x254_S12288x254
  have v18 : FVec Ideal S12288x254 .f32 := broadcast S12288x254 cst_3
  have v19 : FVec Ideal S12288x254 .f32 := select v15 v17 v18
  v19

/-- The bits of one. -/
theorem one_bits : Ideal.ofBits .f32 0x3F800000#32 = (1 : EReal) := by
  simp [Ideal.ofBits, Ideal.ieee, -EReal.coe_mul, -EReal.coe_neg]
  norm_num

/-- The peaks of the rows. -/
def peakV (x : FVec Ideal S12288x5120 .f32) : FVec Ideal S12288x1 .f32 :=
  shapeCast S12288x1 (multiReduction .maximumf [1] S12288 (absf x) 0xFF800000#32 reduces_S12288x5120_S12288 (.inl rfl) rfl) shapeCasts_S12288_S12288x1

/-- The scales, of the peaks and of the least power above each. -/
def scaleV (v5 : FVec Ideal S12288x1 .f32) (v19 : FVec Ideal S12288x254 .f32) : FVec Ideal S12288x1 .f32 :=
  select (cmpf .oeq v5 (broadcast S12288x1 (Scalar.ofBits (F := Ideal) .f32 0x00000000#32))) (broadcast S12288x1 (Scalar.ofBits (F := Ideal) .f32 0x3F800000#32))
    (shapeCast S12288x1 (multiReduction .minimumf [1] S12288 v19 0x7F800000#32 reduces_S12288x254_S12288 (.inl rfl) rfl) shapeCasts_S12288_S12288x1)

/-- The reference's scales are those. -/
theorem pay3_eq (x : Vec Ideal S12288x5120 .bf16) : k0_pay3 (F := Ideal) x
    = scaleV (peakV (k0_pay2 x)) (aboveV powersV (mulf (peakV (k0_pay2 x)) (broadcast S12288x1 (Scalar.ofBits (F := Ideal) .f32 0x3B124925#32)))) := rfl

/-- Its product is of the codes and these weights. -/
theorem pay9_eq (v34 : FVec Ideal S12288x5120 .fp8e4m3) (v36 v38 : IVec S1792x5120 32) (v40 : IVec S1792x5120 1) (cst : Ideal .f32) (v41 : FVec Ideal S1792x5120 .f32) (v74 : Vec Ideal S1792x5120 .fp8e4m3) :
    k0_pay9 (F := Ideal) v34 v36 v38 v40 cst v41 v74
      = matmul dot_S12288x5120_S1792x5120_S12288x1792_1_1_0_0_n_n none (extf .bf16 v34 bitsLt_fp8e4m3_bf16) (weightV v36 (magV v38 v40 cst v41) v74) (constant S12288x1792 .f32 0x00000000#32) := rfl

/-- Widening the activations to f32 changes no value. -/
theorem pay2_eq (x : Vec Ideal S12288x5120 .bf16) : k0_pay2 (F := Ideal) x = x := by
  unfold k0_pay2
  rw [shapeCast_self]
  rfl

/-- The largest magnitude of a row. -/
theorem peak_at (x : FVec Ideal S12288x5120 .f32) (r : Fin 12288) : peakV x (ix2 r 0) = Scale.peak fun k => x (ix2 r k) := by
  refine Eq.trans (b := multiReduction (F := Ideal) .maximumf [1] S12288 (absf x) 0xFF800000#32 reduces_S12288x5120_S12288 (.inl rfl) rfl (ix1 r)) ?_ ?_
  · unfold peakV
    generalize multiReduction (F := Ideal) .maximumf [1] S12288 (absf x) 0xFF800000#32 reduces_S12288x5120_S12288 (.inl rfl) rfl = v
    pointwise
  · generalize hy : absf x = y
    refine Eq.trans (b := Finset.univ.fold max (Ideal.ofBits .f32 0xFF800000#32) (fun k => y (ix2 r k))) ?_ ?_
    · pointwise
    · subst hy
      have : Ideal.ofBits .f32 0xFF800000#32 = (⊥ : EReal) := by simp [Ideal.ofBits, Ideal.ieee]
      rw [this]
      rfl

/-- Entry `j` of the list of powers is two to the `j - 126`. -/
theorem powers_at (j : Fin 254) : powersV (ix2 0 j) = Scale.E (j.val + 1) := by
  refine Eq.trans (b := Ideal.exp2 ((((j.val : ℤ) : ℝ) : EReal) - Ideal.ofBits .f32 0x42FC0000#32)) ?_ ?_
  · refine Eq.trans (b := Ideal.exp2 (((((BitVec.ofNat 32 j.val).toInt : ℤ) : ℝ) : EReal) - Ideal.ofBits .f32 0x42FC0000#32)) ?_ ?_
    · pointwise [powersV]
      rfl
    · rw [(by decide +kernel : ∀ j : Fin 254, (BitVec.ofNat 32 j.val).toInt = (j.val : ℤ)) j]
  · have h : Ideal.ofBits .f32 0x42FC0000#32 = ((126 : ℝ) : EReal) := by
      simp [Ideal.ofBits, Ideal.ieee, -EReal.coe_mul, -EReal.coe_neg]; norm_num
    rw [h, ← EReal.coe_sub, Ideal.exp2_coe]
    unfold Scale.E
    rw [if_neg (by omega), if_pos (by omega)]
    congr 1
    show (2 : ℝ) ^ ((((j.val : ℤ) : ℝ)) - 126) = _
    rw [← Real.rpow_intCast]
    congr 1
    push_cast; ring

/-- A power above the quotient is kept, any other becomes infinite. -/
theorem above_at (p : FVec Ideal S1x254 .f32) (q : FVec Ideal S12288x1 .f32) (r : Fin 12288) (j : Fin 254) :
    aboveV p q (ix2 r j) = if q (ix2 r 0) < p (ix2 0 j) then p (ix2 0 j) else ⊤ := by
  have : Ideal.ofBits .f32 0x7F800000#32 = (⊤ : EReal) := by simp [Ideal.ofBits, Ideal.ieee]
  rw [← this]
  pointwise [aboveV]

/-- The scale of a row: one for a zero row, else the least of the powers kept. -/
theorem scaleV_at (a : FVec Ideal S12288x1 .f32) (v : FVec Ideal S12288x254 .f32) (r : Fin 12288) :
    scaleV a v (ix2 r 0) = if a (ix2 r 0) = 0 then 1 else (Finset.univ : Finset (Fin 254)).fold min ⊤ fun j => v (ix2 r j) := by
  have h0 : Ideal.ofBits .f32 0x00000000#32 = (0 : EReal) := by simp [Ideal.ofBits, Ideal.ieee]
  have h1 := one_bits
  have h2 : Ideal.ofBits .f32 0x7F800000#32 = (⊤ : EReal) := by simp [Ideal.ofBits, Ideal.ieee]
  rw [← h0, ← h1, ← h2]
  pointwise [scaleV]

/-- The reference's scale of a row. -/
theorem scale_at (x : Vec Ideal S12288x5120 .bf16) (r : Fin 12288) : k0_pay3 (F := Ideal) x (ix2 r 0) = Scale.scale (Scale.peak fun k => x (ix2 r k)) := by
  rw [pay3_eq, scaleV_at, pay2_eq]
  simp only [above_at, powers_at]
  have hm : ∀ (v : FVec Ideal S12288x1 .f32), mulf v (broadcast S12288x1 (Scalar.ofBits (F := Ideal) .f32 0x3B124925#32)) (ix2 r 0) = v (ix2 r 0) * Scale.recip448 := fun v => rfl
  simp only [hm, peak_at]
  unfold Scale.scale
  rfl

/-- The codes of scaled rows. -/
def codesV (x : FVec Ideal S12288x5120 .f32) (s : FVec Ideal S12288x1 .f32) : FVec Ideal S12288x5120 .fp8e4m3 :=
  truncf .fp8e4m3 (minimumf (broadcast S12288x5120 (Scalar.ofBits (F := Ideal) .f32 0x43E00000#32)) (maximumf (broadcast S12288x5120 (Scalar.ofBits (F := Ideal) .f32 0xC3E00000#32))
    (mulf x (broadcastTo S12288x5120 (divf (broadcast S12288x1 (Scalar.ofBits (F := Ideal) .f32 0x3F800000#32)) s) broadcasts_S12288x1_S12288x5120)))) bitsLt_fp8e4m3_f32

/-- The code of an entry: the entry times the reciprocal of the scale, clipped to the e4m3 range. -/
theorem codesV_at (x : FVec Ideal S12288x5120 .f32) (s : FVec Ideal S12288x1 .f32) (r : Fin 12288) (l : Fin 5120) : codesV x s (ix2 r l)
    = min (Ideal.ofBits .f32 0x43E00000#32) (max (Ideal.ofBits .f32 0xC3E00000#32) (x (ix2 r l) * Ideal.div 1 (s (ix2 r 0)))) := by
  pointwise [codesV]

/-- The reference's codes are those. -/
theorem pay4_eq (x : Vec Ideal S12288x5120 .bf16) : k0_pay4 (F := Ideal) x = codesV (k0_pay2 x) (k0_pay3 x) := rfl

/-- The reference's codes of a row. -/
theorem code_at (x : Vec Ideal S12288x5120 .bf16) (r : Fin 12288) (l : Fin 5120) : k0_pay4 (F := Ideal) x (ix2 r l) = Scale.code (Scale.peak fun k => x (ix2 r k)) (x (ix2 r l)) := by
  rw [pay4_eq, codesV_at, scale_at, pay2_eq]
  rfl

/-- The magnitude of a code, by the reference's cases. -/
def magS (m : BitVec 32) (six four : EReal) : EReal :=
  Scalar.select (IntOp.cmpi .eq m 0#32) (Ideal.ofBits .f32 0x00000000#32) (Scalar.select (IntOp.cmpi .eq m 1#32) (Ideal.ofBits .f32 0x3F000000#32)
    (Scalar.select (IntOp.cmpi .eq m 2#32) (Ideal.ofBits .f32 0x3F800000#32) (Scalar.select (IntOp.cmpi .eq m 3#32) (Ideal.ofBits .f32 0x3FC00000#32)
      (Scalar.select (IntOp.cmpi .eq m 4#32) (Ideal.ofBits .f32 0x40000000#32) (Scalar.select (IntOp.cmpi .eq m 5#32) (Ideal.ofBits .f32 0x40400000#32)
        (Scalar.select (IntOp.cmpi .eq m 7#32) six four))))))

/-- The magnitude of a four-bit code, entry by entry. -/
theorem mag_at (v38 : IVec S1792x5120 32) (v40 : IVec S1792x5120 1) (cst : Ideal .f32) (v41 : FVec Ideal S1792x5120 .f32) (y : Fin 1792) (l : Fin 5120)
    (h : v40 (ix2 y l) = IntOp.cmpi .eq (v38 (ix2 y l)) 7#32) : magV v38 v40 cst v41 (ix2 y l) = magS (v38 (ix2 y l)) (v41 (ix2 y l)) cst := by
  unfold magS
  rw [← h]
  rfl

/-- The weight at an entry: the signed magnitude times the block scale. -/
theorem weightV_at (v36 : IVec S1792x5120 32) (v67 : FVec Ideal S1792x5120 .f32) (v74 : Vec Ideal S1792x5120 .fp8e4m3) (y : Fin 1792) (l : Fin 5120) :
    weightV v36 v67 v74 (ix2 y l) = Scalar.select (IntOp.cmpi CmpIPredicate.sge (v36 (ix2 y l)) 8#32) (0 - v67 (ix2 y l)) (v67 (ix2 y l)) * v74 (ix2 y l) := by
  pointwise [weightV]

/-- The reference's value of a four-bit code. -/
theorem digit_eq (v : BitVec 32) (hv : v.toNat < 16) :
    Scalar.select (IntOp.cmpi CmpIPredicate.sge v 8#32) (0 - magS (IntOp.andi v 7#32) (Ideal.ofBits .f32 0x40C00000#32) (Ideal.ofBits .f32 0x40800000#32))
      (magS (IntOp.andi v 7#32) (Ideal.ofBits .f32 0x40C00000#32) (Ideal.ofBits .f32 0x40800000#32)) = Cert.KernelIdeal.Run.e2m1 v := by
  have c0 : Ideal.ofBits .f32 0x00000000#32 = ((0 : ℝ) : EReal) := by simp [Ideal.ofBits, Ideal.ieee, -EReal.coe_mul, -EReal.coe_neg]
  have c1 : Ideal.ofBits .f32 0x3F000000#32 = ((1 / 2 : ℝ) : EReal) := by simp [Ideal.ofBits, Ideal.ieee, -EReal.coe_mul, -EReal.coe_neg]; norm_num
  have c2 : Ideal.ofBits .f32 0x3F800000#32 = ((1 : ℝ) : EReal) := one_bits
  have c3 : Ideal.ofBits .f32 0x3FC00000#32 = ((3 / 2 : ℝ) : EReal) := by simp [Ideal.ofBits, Ideal.ieee, -EReal.coe_mul, -EReal.coe_neg]; norm_num
  have c4 : Ideal.ofBits .f32 0x40000000#32 = ((2 : ℝ) : EReal) := by simp [Ideal.ofBits, Ideal.ieee, -EReal.coe_mul, -EReal.coe_neg]; norm_num
  have c5 : Ideal.ofBits .f32 0x40400000#32 = ((3 : ℝ) : EReal) := by simp [Ideal.ofBits, Ideal.ieee, -EReal.coe_mul, -EReal.coe_neg]; norm_num
  have c6 : Ideal.ofBits .f32 0x40800000#32 = ((4 : ℝ) : EReal) := by simp [Ideal.ofBits, Ideal.ieee, -EReal.coe_mul, -EReal.coe_neg]; norm_num
  have c7 : Ideal.ofBits .f32 0x40C00000#32 = ((6 : ℝ) : EReal) := by simp [Ideal.ofBits, Ideal.ieee, -EReal.coe_mul, -EReal.coe_neg]; norm_num
  unfold magS Cert.KernelIdeal.Run.e2m1
  rw [c0, c1, c2, c3, c4, c5, c6, c7, show (0 : EReal) = ((0 : ℝ) : EReal) from rfl]
  obtain ⟨n, hn, rfl⟩ : ∃ n : ℕ, n < 16 ∧ v = BitVec.ofNat 32 n := ⟨v.toNat, hv, by simp⟩
  interval_cases n <;> simp [Scalar.select, IntOp.cmpi, IntOp.andi, ← EReal.coe_sub]

/-- One entry of the result: the dot product of a row of codes and a row of weights, times the scale of the row and the global scale. -/
theorem dot_at (a : FVec Ideal S12288x5120 .fp8e4m3) (W : FVec Ideal S1792x5120 .bf16) (s : FVec Ideal S12288x1 .f32) (g : EReal) (r : Fin 12288) (l : Fin 1792) :
    k0_pay1 (F := Ideal) (matmul dot_S12288x5120_S1792x5120_S12288x1792_1_1_0_0_n_n none (extf .bf16 a bitsLt_fp8e4m3_bf16) W (constant S12288x1792 .f32 0x00000000#32)) (k0_pay10 s g) (ix2 r l)
      = (∑ k, a (ix2 r k) * W (ix2 l k)) * (s (ix2 r 0) * g) := by
  pointwise [k0_pay1, k0_pay10]

/-- The reference's product. -/
theorem prod_at (g : EReal) (c4 : Vec Ideal S1792x5120 .i32) (ws : Vec Ideal S1792x5120 .fp8e4m3) (x : Vec Ideal S12288x5120 .bf16) (hc : ∀ y l, (c4 (ix2 y l) : BitVec 32).toNat < 16) (r : Fin 12288) (l : Fin 1792) :
    k0_pay1 (F := Ideal) (k0_pay9 (k0_pay4 x) (k0_pay5 (F := Ideal) c4) (k0_pay6 (F := Ideal) c4) (k0_pay7 (F := Ideal) c4) (Scalar.ofBits (F := Ideal) .f32 0x40800000#32) (k0_pay8 (F := Ideal)) ws) (k0_pay10 (k0_pay3 x) g) (ix2 r l)
      = (∑ k, Scale.code (Scale.peak fun k => x (ix2 r k)) (x (ix2 r k)) * (Cert.KernelIdeal.Run.e2m1 (c4 (ix2 l k)) * ws (ix2 l k))) * (Scale.scale (Scale.peak fun k => x (ix2 r k)) * g) := by
  have h5 : k0_pay5 (F := Ideal) c4 = c4 := by unfold k0_pay5; exact shapeCast_self _ _
  have hW : ∀ k, weightV (k0_pay5 (F := Ideal) c4) (magV (k0_pay6 (F := Ideal) c4) (k0_pay7 (F := Ideal) c4) (Scalar.ofBits (F := Ideal) .f32 0x40800000#32) (k0_pay8 (F := Ideal))) ws (ix2 l k)
      = Cert.KernelIdeal.Run.e2m1 (c4 (ix2 l k)) * ws (ix2 l k) := fun k => by
    have h6 : k0_pay6 (F := Ideal) c4 (ix2 l k) = IntOp.andi (c4 (ix2 l k)) 7#32 := by unfold k0_pay6; rw [h5]; rfl
    rw [weightV_at, mag_at _ _ _ _ _ _ rfl, h5, h6]
    exact congrArg (fun z : EReal => z * ws (ix2 l k)) (digit_eq (c4 (ix2 l k)) (hc l k))
  rw [pay9_eq, dot_at, scale_at]
  simp only [code_at, hW]

end Cert.ReferenceIdeal.Run
-- ==== Proof.RHost.lean ====
/- What the reference's host operations leave in the four arrays its kernel reads. -/
module

public import proofs.«01_k».proof.Proof.REval
public import Idealize.ShloMosaic.Lib.StableHlo.RunRead
public import Idealize.ShloMosaic.Lib.Pointwise
public import Idealize.ShloMosaic.Lib.Pipeline.Value

@[expose] public section

noncomputable section

namespace Cert.ReferenceIdeal.Run

open Idealize.ShloMosaic Idealize.ShloMosaic.TcCoe Idealize.ShloMosaic.StableHlo
open Cert.ReferenceIdeal Cert.ReferenceIdeal.Gen

variable (m : (ℓ : Loc nD τ sig) → Buf (Elt Ideal) ℓ)

/-- The rows of `x`, as the kernel reads them. -/
theorem V_v12 (c : Dev nD) : V m c main_v12 = shapeCast S12288x5120 (m ((c : Thread nD τ).loc main_arg0)) shapeCasts_S2x6144x5120_S12288x5120 := by
  show StableHlo.after hostOps0 _ _ = _
  after_reads_simp
  rfl

/-- The global scale, as the kernel reads it. -/
theorem V_v11 (c : Dev nD) : V m c main_v11 = shapeCast S1 (m ((c : Thread nD τ).loc main_arg3)) shapeCasts_S_S1 := by
  show StableHlo.after hostOps0 _ _ = _
  after_reads_simp
  rfl

/-- The scales spread over their blocks. -/
theorem V_v10 (c : Dev nD) : V m c main_v10 = shapeCast S1792x5120 (broadcastInDim S1792x320x16 ![0, 1] bcast_S1792x320_S1792x320x16_0_1 (m ((c : Thread nD τ).loc main_arg2) : S1792x320.Idx → Ideal .fp8e4m3)) shapeCasts_S1792x320x16_S1792x5120 := by
  show StableHlo.after hostOps0 _ _ = _
  after_reads_simp
  rfl

/-- The codes of a packed array, one a word: the low four bits of a byte are row `2 i`, the high four row `2 i + 1`. -/
def unpack (a : IVec S896x5120 8) : IVec S1792x5120 32 :=
  shapeCast S1792x5120 (concatenate S896x2x5120 1
    [⟨S896x1x5120, broadcastInDim S896x1x5120 ![0, 2] bcast_S896x5120_S896x1x5120_0_2 (andi (extui 32 a natLt_8_32) (broadcastInDim S896x5120 ![] bcast_S_S896x5120 (constantI S_ 32 15#32)))⟩,
     ⟨S896x1x5120, broadcastInDim S896x1x5120 ![0, 2] bcast_S896x5120_S896x1x5120_0_2 (Host.shrsi (extui 32 a natLt_8_32) (broadcastInDim S896x5120 ![] bcast_S_S896x5120 (constantI S_ 32 4#32)))⟩]
    concatenates_S896x1x5120_S896x1x5120_S896x2x5120_d1) shapeCasts_S896x2x5120_S1792x5120

/-- The unpacked codes. -/
theorem V_v8 (c : Dev nD) : V m c main_v8 = unpack (m ((c : Thread nD τ).loc main_arg1)) := by
  show StableHlo.after hostOps0 _ _ = _
  after_reads_simp
  rfl

/-- A code of the unpacked array. -/
theorem unpack_at (a : IVec S896x5120 8) (y : Fin 1792) (l : Fin 5120) :
    unpack a (ix2 y l) = Cert.KernelIdeal.Run.nib (a (ix2 (⟨y.val / 2, by omega⟩ : Fin 896) l)) (y.val % 2) := by
  unfold unpack
  rw [shapeCast_apply _ _ (ix2 y l) (ix3 (⟨y.val / 2, by omega⟩ : Fin 896) (⟨y.val % 2, by omega⟩ : Fin 2) l) (by
    rw [Shape.rowMajor_val_three, Shape.rowMajor_val_two]; simp; omega)]
  pointwise
  unfold Cert.KernelIdeal.Run.nib
  have hand : ∀ b : BitVec 8, IntOp.shrsi ArithUnit.host (b.setWidth 32) 4#32 = b.setWidth 32 >>> 4 := by decide
  by_cases h : y.val % 2 = 0
  · exact (dif_pos (by show y.val % 2 < 1; omega)).trans (if_pos h).symm
  · exact (dif_neg (by show ¬ y.val % 2 < 1; omega)).trans ((hand _).trans (if_neg h).symm)

/-- A scale of the spread array. -/
theorem spread_at (a : S1792x320.Idx → Ideal .fp8e4m3) (y : Fin 1792) (l : Fin 5120) :
    shapeCast S1792x5120 (broadcastInDim S1792x320x16 ![0, 1] bcast_S1792x320_S1792x320x16_0_1 a) shapeCasts_S1792x320x16_S1792x5120 (ix2 y l)
      = a (ix2 y (⟨l.val / 16, by omega⟩ : Fin 320)) := by
  rw [shapeCast_apply _ _ (ix2 y l) (ix3 y (⟨l.val / 16, by omega⟩ : Fin 320) (⟨l.val % 16, by omega⟩ : Fin 16)) (by
    rw [Shape.rowMajor_val_three, Shape.rowMajor_val_two]; simp; omega)]
  pointwise

/-- What the body leaves of the product. -/
theorem out_y (c : Dev nD) (t : Fin cfg0.N) (x0 : Vec Ideal S1 .f32) (x1 : Vec Ideal S12288x5120 .bf16) (x2 : Vec Ideal S1792x5120 .i32) (x3 : Vec Ideal S1792x5120 .fp8e4m3) :
    out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3
      = k0_pay1 (F := Ideal) (k0_pay9 (k0_pay4 x1) (k0_pay5 (F := Ideal) x2) (k0_pay6 (F := Ideal) x2) (k0_pay7 (F := Ideal) x2) (Scalar.ofBits (F := Ideal) .f32 0x40800000#32) (k0_pay8 (F := Ideal)) x3) (k0_pay10 (k0_pay3 x1) (x0 (ix1 0))) := by
  unfold out0_A_4
  refine (View.read_writes_full _ _ _ _ _).trans ?_
  delta kernelRun0_A.sl.r_6 kernelRun0_A.sl.r_7; dsimp only
  delta kernelRun0_A.sl.r_1 kernelRun0_A.sl.r_2 kernelRun0_A.sl.r_3 kernelRun0_A.sl.r_4 kernelRun0_A.sl.r kernelRun0_A.sl.r_5 kernelRun0_A.sl.cst_14; dsimp only
  have h1 : (ms0_1 t).view.readAt (Elt Ideal) (Rect.unit (s := S12288x5120) ![0, 0] ![12288, 5120] inb_S12288x5120_S12288x5120_0_0).toLoadRect ((hs0_1 t).unread x1) = x1 :=
    (View.readAt_full _ _ _).trans ((hs0_1 t).read_unread x1)
  have h2 : (ms0_2 t).view.readAt (Elt Ideal) (Rect.unit (s := S1792x5120) ![0, 0] ![1792, 5120] inb_S1792x5120_S1792x5120_0_0).toLoadRect ((hs0_2 t).unread x2) = x2 :=
    (View.readAt_full _ _ _).trans ((hs0_2 t).read_unread x2)
  have h3 : (ms0_3 t).view.readAt (Elt Ideal) (Rect.unit (s := S1792x5120) ![0, 0] ![1792, 5120] inb_S1792x5120_S1792x5120_0_0).toLoadRect ((hs0_3 t).unread x3) = x3 :=
    (View.readAt_full _ _ _).trans ((hs0_3 t).read_unread x3)
  refine congr (congrArg k0_pay1 ?_) (congr (congrArg k0_pay10 (congrArg k0_pay3 h1)) ?_)
  · exact congr (congrArg (fun f => f k0_pay8) (congrArg (fun f => f (Scalar.ofBits (F := Ideal) .f32 0x40800000#32)) (congr (congr (congr (congrArg k0_pay9 (congrArg k0_pay4 h1)) (congrArg k0_pay5 h2)) (congrArg k0_pay6 h2)) (congrArg k0_pay7 h2)))) h3
  · refine (congrFun (View.readAt_full _ _ _) _).trans ((congrFun ((hs0_0 t).read_unread x0) _).trans (congrArg x0 ?_))
    funext a; apply Fin.ext; fin_cases a; rfl

/-- What the body leaves of the codes. -/
theorem out_c (c : Dev nD) (t : Fin cfg0.N) (x0 : Vec Ideal S1 .f32) (x1 : Vec Ideal S12288x5120 .bf16) (x2 : Vec Ideal S1792x5120 .i32) (x3 : Vec Ideal S1792x5120 .fp8e4m3) :
    out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3
      = k0_pay4 (F := Ideal) x1 := by
  unfold out0_A_5
  refine (View.read_writes_full _ _ _ _ _).trans ?_
  exact congrArg k0_pay4 ((View.readAt_full _ _ _).trans ((hs0_1 t).read_unread x1))

/-- What the body leaves of the scales. -/
theorem out_s (c : Dev nD) (t : Fin cfg0.N) (x0 : Vec Ideal S1 .f32) (x1 : Vec Ideal S12288x5120 .bf16) (x2 : Vec Ideal S1792x5120 .i32) (x3 : Vec Ideal S1792x5120 .fp8e4m3) :
    out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3
      = k0_pay3 (F := Ideal) x1 := by
  unfold out0_A_6
  refine (View.read_writes_full _ _ _ _ _).trans ?_
  exact congrArg k0_pay3 ((View.readAt_full _ _ _).trans ((hs0_1 t).read_unread x1))

end Cert.ReferenceIdeal.Run
-- ==== Proof.RFinal.lean ====
/- The reference's three result arrays, as functions of its arguments. -/
module

public import proofs.«01_k».proof.Proof.RHost
public import proofs.«01_k».proof.Proof.Result
public import Idealize.ShloMosaic.Lib.Pipeline.ValueKit.Geometry

@[expose] public section

noncomputable section

namespace Cert.ReferenceIdeal.Run

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The rows of the argument `x`. -/
abbrev rows (c : Dev nD) : Vec Ideal S12288x5120 .bf16 := shapeCast S12288x5120 (m ((c : Thread nD τ).loc main_arg0)) shapeCasts_S2x6144x5120_S12288x5120

/-- The four inputs' block indices are zero. -/
theorem at0 : win0_0.index t0_0 = ![0] := by decide +kernel
/-- The activations are one block. -/
theorem at1 : win0_1.index t0_0 = ![0, 0] := by decide +kernel
/-- The weight codes are one block. -/
theorem at2 : win0_2.index t0_0 = ![0, 0] := by decide +kernel
/-- The block scales are one block. -/
theorem at3 : win0_3.index t0_0 = ![0, 0] := by decide +kernel

/-- The kernel's one block of the global scale is all of it. -/
theorem blk_g (c : Dev nD) : iblk m c 0 t0_0 = shapeCast S1 (m ((c : Thread nD τ).loc main_arg3)) shapeCasts_S_S1 := by
  refine Eq.trans ?_ (V_v11 m c)
  funext y
  show V m c main_v11 (((cfg0.win 0).blk t0_0).view.emb y) = V m c main_v11 y
  refine congrArg (V m c main_v11) ?_
  blk_ext [at0]

/-- The kernel's one block of the rows is all of them. -/
theorem blk_x (c : Dev nD) : iblk m c 1 t0_0 = rows m c := by
  refine Eq.trans ?_ (V_v12 m c)
  funext y
  show V m c main_v12 (((cfg0.win 1).blk t0_0).view.emb y) = V m c main_v12 y
  refine congrArg (V m c main_v12) ?_
  blk_ext [at1]

/-- The kernel's one block of the codes is all of them. -/
theorem blk_c (c : Dev nD) : iblk m c 2 t0_0 = unpack (m ((c : Thread nD τ).loc main_arg1)) := by
  refine Eq.trans ?_ (V_v8 m c)
  funext y
  show V m c main_v8 (((cfg0.win 2).blk t0_0).view.emb y) = V m c main_v8 y
  refine congrArg (V m c main_v8) ?_
  blk_ext [at2]

/-- The kernel's one block of the spread scales is all of them. -/
theorem blk_s (c : Dev nD) : iblk m c 3 t0_0 = shapeCast S1792x5120 (broadcastInDim S1792x320x16 ![0, 1] bcast_S1792x320_S1792x320x16_0_1 (m ((c : Thread nD τ).loc main_arg2) : S1792x320.Idx → Ideal .fp8e4m3)) shapeCasts_S1792x320x16_S1792x5120 := by
  refine Eq.trans ?_ (V_v10 m c)
  funext y
  show V m c main_v10 (((cfg0.win 3).blk t0_0).view.emb y) = V m c main_v10 y
  refine congrArg (V m c main_v10) ?_
  blk_ext [at3]

/-- Every index of a matrix is a row and a column. -/
theorem ix_eq {a b : ℕ} (y : (⟨2, ![a, b]⟩ : Shape).Idx) : y = ix2 (⟨(y 0).val, (y 0).isLt⟩ : Fin a) (⟨(y 1).val, (y 1).isLt⟩ : Fin b) := by
  funext i; fin_cases i <;> rfl

/-- Every index of a column is a row. -/
theorem ix_eq1 {a : ℕ} (y : (⟨2, ![a, 1]⟩ : Shape).Idx) : y = ix2 (⟨(y 0).val, (y 0).isLt⟩ : Fin a) (0 : Fin 1) := by
  funext i
  fin_cases i
  · rfl
  · exact Subsingleton.elim (α := Fin 1) _ _

/-- What the body leaves of the scales, at a row. -/
theorem after_s (c : Dev nD) (r : Fin 12288) : (dats m 0 c).after 6 t0_0 (ix2 r 0) = Cert.Result.scale (rows m c) (ix2 r 0) := by
  refine (congrFun (after0_6 m c t0_0) _).trans ?_
  show (outsAt0 m c t0_0).2.2 _ = _
  unfold outsAt0; dsimp only
  rw [out_s, blk_x]
  exact scale_at _ _

/-- What the body leaves of the codes, at a row and column. -/
theorem after_c (c : Dev nD) (r : Fin 12288) (l : Fin 5120) : (dats m 0 c).after 5 t0_0 (ix2 r l) = Cert.Result.codes (rows m c) (ix2 r l) := by
  refine (congrFun (after0_5 m c t0_0) _).trans ?_
  show (outsAt0 m c t0_0).2.1 _ = _
  unfold outsAt0; dsimp only
  rw [out_c, blk_x]
  exact code_at _ _ _

/-- What the body leaves of the product, at a row and column. -/
theorem after_y (c : Dev nD) (r : Fin 12288) (l : Fin 1792) : (dats m 0 c).after 4 t0_0 (ix2 r l)
    = Cert.Result.prod (rows m c) (m ((c : Thread nD τ).loc main_arg1)) (m ((c : Thread nD τ).loc main_arg2)) (shapeCast S1 (m ((c : Thread nD τ).loc main_arg3)) shapeCasts_S_S1 (ix1 0)) (ix2 r l) := by
  refine (congrFun (after0_4 m c t0_0) _).trans ?_
  show (outsAt0 m c t0_0).1 _ = _
  unfold outsAt0; dsimp only
  rw [out_y, blk_x, blk_c, blk_s, blk_g]
  refine (prod_at _ _ _ _ (fun y k => ?_) r l).trans ?_
  · rw [unpack_at]; exact Cert.KernelIdeal.Run.nib_lt _ ⟨y.val % 2, Nat.mod_lt _ (by decide)⟩
  · refine Eq.trans ?_ (Cert.Result.prod_at _ _ _ _ r l).symm
    have hW : ∀ k : Fin 5120, Cert.KernelIdeal.Run.e2m1 (unpack (m ((c : Thread nD τ).loc main_arg1)) (ix2 l k)) * shapeCast S1792x5120 (broadcastInDim S1792x320x16 ![0, 1] bcast_S1792x320_S1792x320x16_0_1 (m ((c : Thread nD τ).loc main_arg2) : S1792x320.Idx → Ideal .fp8e4m3)) shapeCasts_S1792x320x16_S1792x5120 (ix2 l k)
        = Cert.KernelIdeal.Run.Wdec (m ((c : Thread nD τ).loc main_arg1)) (m ((c : Thread nD τ).loc main_arg2)) (ix2 l k) := fun k => by
      rw [unpack_at, spread_at]; rfl
    simp only [hW]
    unfold Cert.Result.peakAt
    with_reducible rfl

/-- The array of scales ends holding the rows' scales. -/
theorem final_s (c : Dev nD) : (dats m 0 c).arrAt 6 cfg0.N = Cert.Result.scale (rows m c) := by
  refine (dats m 0 c).arrAt_eq_of_after_last 6 t0_0 (by decide +kernel) _ ?_
  intro j
  exact (congrArg ((dats m 0 c).after 6 t0_0) (ix_eq1 j)).trans ((after_s m c _).trans (congrArg (Cert.Result.scale (rows m c)) (ix_eq1 j).symm))

/-- The array of codes ends holding the rows' codes. -/
theorem final_c (c : Dev nD) : (dats m 0 c).arrAt 5 cfg0.N = Cert.Result.codes (rows m c) := by
  refine (dats m 0 c).arrAt_eq_of_after_last 5 t0_0 (by decide +kernel) _ ?_
  intro j
  exact (congrArg ((dats m 0 c).after 5 t0_0) (ix_eq j)).trans ((after_c m c _ _).trans (congrArg _ (ix_eq j).symm))

/-- The product's array ends holding the product. -/
theorem final_y (c : Dev nD) : (dats m 0 c).arrAt 4 cfg0.N
    = Cert.Result.prod (rows m c) (m ((c : Thread nD τ).loc main_arg1)) (m ((c : Thread nD τ).loc main_arg2)) (shapeCast S1 (m ((c : Thread nD τ).loc main_arg3)) shapeCasts_S_S1 (ix1 0)) := by
  refine (dats m 0 c).arrAt_eq_of_after_last 4 t0_0 (by decide +kernel) _ ?_
  intro j
  exact (congrArg ((dats m 0 c).after 4 t0_0) (ix_eq j)).trans ((after_y m c _ _).trans (congrArg _ (ix_eq j).symm))

/-- The reference's run: its three arrays at their values, its arguments unchanged. -/
theorem run : θ_run defs (onTc (τ := τ) (main (F := Ideal))) ⟨m, fun _ => 0, ρ⟩ fun r => ∀ c : Dev nD,
      r.2.mem ((c : Thread nD τ).loc main_v13_0) = Cert.Result.prod (rows m c) (m ((c : Thread nD τ).loc main_arg1)) (m ((c : Thread nD τ).loc main_arg2)) (shapeCast S1 (m ((c : Thread nD τ).loc main_arg3)) shapeCasts_S_S1 (ix1 0))
      ∧ r.2.mem ((c : Thread nD τ).loc main_v13_1) = Cert.Result.codes (rows m c)
      ∧ r.2.mem ((c : Thread nD τ).loc main_v13_2) = Cert.Result.scale (rows m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post4 m r h c).trans (final_y m c), (Value.post5 m r h c).trans (final_c m c), (Value.post6 m r h c).trans (final_s m c),
      Value.kept_main_arg0 m r h c, Value.kept_main_arg1 m r h c, Value.kept_main_arg2 m r h c, Value.kept_main_arg3 m r h c⟩)
    (run_main m ρ)

end Cert.ReferenceIdeal.Run
-- ==== Proof.lean ====
/- The proof of the five claims of the statement: both readings of the kernel and the reference run to the
   end from any memory, each rewrite made in idealizing the kernel is its rule's proved statement, and the
   idealized kernel and the idealized reference return the same three arrays when the activations are finite. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.BFrame
public import proofs.«01_k».proof.Proof.KFinal
public import proofs.«01_k».proof.Proof.RFinal
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

/-- Every rewrite the idealization made is its rule's proved statement, at the shapes it was applied at. -/
theorem preserves : Cert.preserves_Kernel_KernelIdeal :=
  ⟨IdealRules.bf16_pair.bufferStatement _ _, IdealRules.bf16_pair.statement _ _,
    IdealRules.bf16_pair.selectZeroStatement _, IdealRules.bf16_pair.statement _ _,
    IdealRules.bf16_pair.statement _ _, IdealRules.bf16_pair.statement _ _,
    IdealRules.bf16_pair.statement _ _, IdealRules.bf16_pack.statement _⟩

/-- The predicate at an element: where it is one, the element's magnitude is no larger than the largest finite `bf16`. -/
theorem within (x : FVec Ideal Cert.Pre_finite.S2x6144x5120 .bf16) (p : IVec Cert.Pre_finite.S896x5120 8) (s : FVec Ideal Cert.Pre_finite.S1792x320 .fp8e4m3) (g : FVec Ideal Cert.Pre_finite.S_ .f32)
    (h : Cert.Pre_finite.fn (F := Ideal) x p s g = fun _ => 1#1) (j : Cert.Pre_finite.S2x6144x5120.Idx) : max (x j : EReal) (-(x j : EReal)) ≤ Cert.Scale.bound := by
  have hj : Ideal.cmp .ole (max (x j : EReal) (-(x j : EReal))) (Cert.Scale.bound : EReal) = 1#1 := congrFun h j
  by_contra hn
  simp [Ideal.cmp, hn] at hj

/-- The precondition read: no element of `x` is larger in magnitude than the largest finite `bf16`. -/
theorem bounded (m : (ℓ : Loc Cert.KernelIdeal.nD Cert.KernelIdeal.τ Cert.KernelIdeal.sig) → Buf (Elt Ideal) ℓ)
    (h : Cert.Pre_KernelIdeal_finite m) (c : Dev Cert.KernelIdeal.nD) (i : Cert.KernelIdeal.S12288x5120.Idx) :
    max (Cert.KernelIdeal.Run.rows m c i) (-Cert.KernelIdeal.Run.rows m c i) ≤ Cert.Scale.bound := by
  exact within _ _ _ _ (h c) _

/-- The idealized kernel and the reference leave the same three arrays. -/
theorem algebraic : Cert.algebraic_KernelIdeal_ReferenceIdeal_pre_finite := by
  intro m g m' g' hpre hargs
  refine ⟨fun c => Cert.Result.prod (Cert.KernelIdeal.Run.rows m c) (m ((c : Thread Cert.KernelIdeal.nD Cert.KernelIdeal.τ).loc Cert.KernelIdeal.main_arg1)) (m ((c : Thread Cert.KernelIdeal.nD Cert.KernelIdeal.τ).loc Cert.KernelIdeal.main_arg2)) (Cert.KernelIdeal.Run.glob m c (ix1 0)),
    fun c => Cert.Result.codes (Cert.KernelIdeal.Run.rows m c), fun c => Cert.Result.scale (Cert.KernelIdeal.Run.rows m c), ?_, ?_⟩
  · exact (θ_run Cert.KernelIdeal.defs _ _).mono (fun r h c => ⟨(h c).1.1, (h c).1.2.1, (h c).1.2.2, (h c).2⟩)
      (Cert.KernelIdeal.Run.run m g (bounded m hpre))
  · refine (θ_run Cert.ReferenceIdeal.defs _ _).mono (fun r h c => ?_) (Cert.ReferenceIdeal.Run.run m' g')
    obtain ⟨h0, h1, h2, h3⟩ := h c
    obtain ⟨a0, a1, a2, a3⟩ := hargs c
    have hr : Cert.ReferenceIdeal.Run.rows m' c = Cert.KernelIdeal.Run.rows m c := congrArg (fun z : Vec Ideal Cert.KernelIdeal.S2x6144x5120 .bf16 => shapeCast Cert.KernelIdeal.S12288x5120 z (by decide)) a0
    have hg := congrArg (fun z : Vec Ideal Cert.KernelIdeal.S_ .f32 => shapeCast Cert.KernelIdeal.S1 z (by decide) (ix1 0)) a3
    refine ⟨h0.trans ?_, h1.trans (congrArg Cert.Result.codes hr), h2.trans (congrArg Cert.Result.scale hr), h3⟩
    exact congr (congr (congr (congrArg Cert.Result.prod hr) a1) a2) hg

/-- The certificate's claim: the frames, the idealization's record and the equality of the idealized programs. -/
theorem claim : Cert.Claim := ⟨Cert.Kernel.Gen.facts, Cert.KernelIdeal.Gen.facts, Cert.ReferenceIdeal.Gen.facts, Cert.Pre_finite.Gen.facts,
  fun m ρ _ => Cert.Kernel.Run.frame m ρ,
  fun m ρ _ => Cert.KernelIdeal.Run.frame Cert.KernelIdeal.Run.Wdec m ρ Cert.KernelIdeal.Run.decodes,
  fun m ρ _ => Cert.KernelIdeal.Run.frame Cert.KernelIdeal.Run.Wdec m ρ Cert.KernelIdeal.Run.decodes,
  fun m ρ _ => Cert.ReferenceIdeal.Gen.frame m ρ,
  fun m ρ _ => Cert.ReferenceIdeal.Gen.frame m ρ,
  preserves, algebraic⟩

end Cert.Proof

end
